-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_settled [hKernelIdeal : Cert.KernelIdeal.Facts] [hReferenceIdeal : Cert.ReferenceIdeal.Facts] [hOn_settled : Cert.On_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![10000, 10000]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v5) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![10000, 10000]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v34) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hOn_settled : Cert.On_settled.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_settled (hKernelIdeal := hKernelIdeal) (hReferenceIdeal := hReferenceIdeal) (hOn_settled := hOn_settled)
-- ==== On_settled.lean ====
abbrev S10000x512 : Shape := ⟨2, ![10000, 512]⟩
abbrev S512 : Shape := ⟨1, ![512]⟩
abbrev S1x512 : Shape := ⟨2, ![1, 512]⟩
abbrev S_ : Shape := ⟨0, ![]⟩
abbrev S10000 : Shape := ⟨1, ![10000]⟩
abbrev S10000x1 : Shape := ⟨2, ![10000, 1]⟩
abbrev S512x10000 : Shape := ⟨2, ![512, 10000]⟩
abbrev S10000x10000 : Shape := ⟨2, ![10000, 10000]⟩
abbrev S10000x32 : Shape := ⟨2, ![10000, 32]⟩
abbrev S10000x31 : Shape := ⟨2, ![10000, 31]⟩
abbrev S10000x31x1 : Shape := ⟨3, ![10000, 31, 1]⟩
abbrev S10000x1x31 : Shape := ⟨3, ![10000, 1, 31]⟩
abbrev S10000x31x31 : Shape := ⟨3, ![10000, 31, 31]⟩
abbrev S10000x31x2 : Shape := ⟨3, ![10000, 31, 2]⟩

class Facts : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  reducesTo_S10000x512_S10000_d1 : S10000x512.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x512_0_1 : S10000x1.BroadcastsInDim S10000x512 (![0, 1] : Fin 2 → Fin S10000x512.rank)
  transposes_S10000x512_S512x10000_1_0 : S10000x512.Transposes [1, 0] S512x10000
  sliceFits_S10000x10000_S10000x32 : S10000x10000.Slices (fun _ => 0) S10000x32
  slices_S10000x32_S10000x31_0_0 : S10000x32.Slices ![0, 0] S10000x31
  slices_S10000x32_S10000x31_0_1 : S10000x32.Slices ![0, 1] S10000x31
  reducesTo_S10000x31_S10000_d1 : S10000x31.ReducesTo [1] S10000
  bcast_S_S10000x31 : S_.BroadcastsInDim S10000x31 (![] : Fin 0 → Fin S10000x31.rank)
  bcast_S10000x31_S10000x31x1_0_1 : S10000x31.BroadcastsInDim S10000x31x1 (![0, 1] : Fin 2 → Fin S10000x31x1.rank)
  bcast_S10000x31_S10000x1x31_0_2 : S10000x31.BroadcastsInDim S10000x1x31 (![0, 2] : Fin 2 → Fin S10000x1x31.rank)
  bcast_S10000x31x1_S10000x31x31_0_1_2 : S10000x31x1.BroadcastsInDim S10000x31x31 (![0, 1, 2] : Fin 3 → Fin S10000x31x31.rank)
  bcast_S10000x1x31_S10000x31x31_0_1_2 : S10000x1x31.BroadcastsInDim S10000x31x31 (![0, 1, 2] : Fin 3 → Fin S10000x31x31.rank)
  natLt_1_32 : 1 < 32
  reducesTo_S10000x31x31_S10000x31_d2 : S10000x31x31.ReducesTo [2] S10000x31
  bcast_S_S10000x10000 : S_.BroadcastsInDim S10000x10000 (![] : Fin 0 → Fin S10000x10000.rank)
  bcast_S10000x1_S10000x10000_0_1 : S10000x1.BroadcastsInDim S10000x10000 (![0, 1] : Fin 2 → Fin S10000x10000.rank)
  sliceFits_S10000x10000_S10000x31 : S10000x10000.Slices (fun _ => 0) S10000x31
  bcast_S10000x1_S10000x31_0_1 : S10000x1.BroadcastsInDim S10000x31 (![0, 1] : Fin 2 → Fin S10000x31.rank)
  concatenates_S10000x31x1_S10000x31x1_S10000x31x2_d2 : Shape.Concatenates [S10000x31x1, S10000x31x1] S10000x31x2 2
  dot_S10000x512_S512x10000_S10000x10000_1_0_0_1_n_n_wf : DotDims.WF S10000x512 S512x10000 S10000x10000 [1] [0] [0] [1] [] []
  scatter_S10000x10000_S10000x31x2_S10000x31_n_01_01_2_wf : ScatterDims.WF S10000x10000 S10000x31x2 S10000x31 [] [0, 1] [0, 1] 2

variable [Facts]

def dot_S10000x512_S512x10000_S10000x10000_1_0_0_1_n_n : DotDims S10000x512 S512x10000 S10000x10000 where
  lhsContracting := [1]
  rhsContracting := [0]
  lhsNonContracting := [0]
  rhsNonContracting := [1]
  lhsBatch := []
  rhsBatch := []
  wf := dot_S10000x512_S512x10000_S10000x10000_1_0_0_1_n_n_wf
def scatter_S10000x10000_S10000x31x2_S10000x31_n_01_01_2 : ScatterDims S10000x10000 S10000x31x2 S10000x31 where
  updateWindowDims := []
  insertedWindowDims := [0, 1]
  scatterDimsToOperandDims := [0, 1]
  indexVectorDim := 2
  wf := scatter_S10000x10000_S10000x31x2_S10000x31_n_01_01_2_wf
def fn_relu {F : FTy → Type} [FloatOps F] (arg0 : FVec F S10000x512 .f32) : FVec F S10000x512 .f32 :=
  let cst : FVec F S_ .f32 := constant S_ .f32 0x00000000#32
  let v0 : FVec F S10000x512 .f32 := broadcastInDim S10000x512 ![] bcast_S_S10000x512 cst
  let v1 : FVec F S10000x512 .f32 := maximumf arg0 v0
  v1

def fn_norm {F : FTy → Type} [FloatOps F] (arg0 : FVec F S10000x512 .f32) : FVec F S10000x1 .f32 :=
  let v0 : FVec F S10000x512 .f32 := mulf arg0 arg0
  let cst : FVec F S_ .f32 := constant S_ .f32 0x00000000#32
  let v1 : FVec F S10000 .f32 := (fun x v => Host.reduceAdd x v reducesTo_S10000x512_S10000_d1 h_S_) v0 cst
  let v2 : FVec F S10000x1 .f32 := broadcastInDim S10000x1 ![0] bcast_S10000_S10000x1_0 v1
  let v3 : FVec F S10000x1 .f32 := Host.sqrt v2
  v3

def fn_relu_0 {F : FTy → Type} [FloatOps F] (arg0 : FVec F S10000x10000 .f32) : FVec F S10000x10000 .f32 :=
  let cst : FVec F S_ .f32 := constant S_ .f32 0x00000000#32
  let v0 : FVec F S10000x10000 .f32 := broadcastInDim S10000x10000 ![] bcast_S_S10000x10000 cst
  let v1 : FVec F S10000x10000 .f32 := maximumf arg0 v0
  v1

def fn_part3 {F : FTy → Type} [FloatOps F] (main_v36 : IVec S10000x10000 1) (main_v50 : FVec F S10000x10000 .f32) (main_indices_7 : IVec S10000x31 32) (main_v51 : FVec F S10000x10000 .f32) (main_v53 : IVec S10000x1 32) (main_v55 : IVec S10000x1 1) (main_v56 : IVec S10000x1 32) : IVec S10000x10000 1 :=
  let main_v57 : IVec S10000x1 32 := addi main_v53 main_v56
  let main_v58 : IVec S10000x1 32 := select main_v55 main_v57 main_v53
  let main_c_11 : IVec S_ 32 := constantI S_ 32 0#32
  let main_v59 : IVec S10000x31 32 := broadcastInDim S10000x31 ![] bcast_S_S10000x31 main_c_11
  let main_v60 : IVec S10000x31 1 := cmpi .slt main_indices_7 main_v59
  let main_c_12 : IVec S_ 32 := constantI S_ 32 10000#32
  let main_v61 : IVec S10000x31 32 := broadcastInDim S10000x31 ![] bcast_S_S10000x31 main_c_12
  let main_v62 : IVec S10000x31 32 := addi main_indices_7 main_v61
  let main_v63 : IVec S10000x31 32 := select main_v60 main_v62 main_indices_7
  let main_v64 : IVec S10000x31 32 := broadcastInDim S10000x31 ![0, 1] bcast_S10000x1_S10000x31_0_1 main_v58
  let main_v65 : IVec S10000x31x1 32 := broadcastInDim S10000x31x1 ![0, 1] bcast_S10000x31_S10000x31x1_0_1 main_v64
  let main_v66 : IVec S10000x31x1 32 := broadcastInDim S10000x31x1 ![0, 1] bcast_S10000x31_S10000x31x1_0_1 main_v63
  let main_v67 : IVec S10000x31x2 32 := (fun a b => concatenate S10000x31x2 2 [⟨S10000x31x1, a⟩, ⟨S10000x31x1, b⟩] concatenates_S10000x31x1_S10000x31x1_S10000x31x2_d2) main_v65 main_v66
  let main_cst_13 : FVec F S_ .f32 := constant S_ .f32 0x3F800000#32
  let main_v68 : FVec F S10000x31 .f32 := broadcastInDim S10000x31 ![] bcast_S_S10000x31 main_cst_13
  let main_v69 : FVec F S10000x10000 .f32 := (fun x i u => Host.scatter scatter_S10000x10000_S10000x31x2_S10000x31_n_01_01_2 (fun _ b => b) x i u) main_v51 main_v67 main_v68
  let main_v70 : FVec F S10000x10000 .f32 := mulf main_v50 main_v69
  let main_v71 : FVec F S10000x10000 .f32 := fn_relu_0 (F := F) main_v70
  let main_cst_14 : FVec F S_ .f32 := constant S_ .f32 0x00000000#32
  let main_v72 : FVec F S10000x10000 .f32 := broadcastInDim S10000x10000 ![] bcast_S_S10000x10000 main_cst_14
  let main_v73 : IVec S10000x10000 1 := cmpf .ogt main_v71 main_v72
  let main_v74 : IVec S10000x10000 1 := ori main_v36 main_v73
  main_v74

def fn_part2 {F : FTy → Type} [FloatOps F] (main_arg0 : FVec F S10000x512 .f32) (main_arg2 : FVec F S512 .f32) (main_v36 : IVec S10000x10000 1) (main_v38 : FVec F S10000x512 .f32) : IVec S10000x10000 1 :=
  let main_v39 : FVec F S10000x512 .f32 := mulf main_arg0 main_v38
  let main_v40 : FVec F S10000x512 .f32 := fn_relu (F := F) main_v39
  let main_v41 : FVec F S1x512 .f32 := broadcastInDim S1x512 ![1] bcast_S512_S1x512_1 main_arg2
  let main_v42 : FVec F S10000x512 .f32 := broadcastInDim S10000x512 ![0, 1] bcast_S1x512_S10000x512_0_1 main_v41
  let main_v43 : FVec F S10000x512 .f32 := mulf main_v40 main_v42
  let main_v44 : FVec F S10000x1 .f32 := fn_norm (F := F) main_v43
  let main_cst_5 : FVec F S_ .f32 := constant S_ .f32 0x2B8CBCCC#32
  let main_v45 : FVec F S10000x1 .f32 := broadcastInDim S10000x1 ![] bcast_S_S10000x1 main_cst_5
  let main_v46 : FVec F S10000x1 .f32 := maximumf main_v44 main_v45
  let main_v47 : FVec F S10000x512 .f32 := broadcastInDim S10000x512 ![0, 1] bcast_S10000x1_S10000x512_0_1 main_v46
  let main_v48 : FVec F S10000x512 .f32 := Host.divf main_v43 main_v47
  let main_v49 : FVec F S512x10000 .f32 := (transpose S512x10000 [1, 0] · transposes_S10000x512_S512x10000_1_0) main_v48
  let main_v50 : FVec F S10000x10000 .f32 := (fun l r => Host.dotGeneral dot_S10000x512_S512x10000_S10000x10000_1_0_0_1_n_n none l r) main_v48 main_v49
  let main_values_6 : FVec F S10000x31 .f32 := (fun x => (Host.topK S10000x31 1 (FloatOps.cmpfTotal .gt) x sliceFits_S10000x10000_S10000x31).1) main_v50
  let main_indices_7 : IVec S10000x31 32 := (fun x => (Host.topK S10000x31 1 (FloatOps.cmpfTotal .gt) x sliceFits_S10000x10000_S10000x31).2) main_v50
  let main_cst_8 : FVec F S_ .f32 := constant S_ .f32 0x00000000#32
  let main_v51 : FVec F S10000x10000 .f32 := broadcastInDim S10000x10000 ![] bcast_S_S10000x10000 main_cst_8
  let main_v52 : IVec S10000 32 := iotaInDim S10000 32 0
  let main_v53 : IVec S10000x1 32 := broadcastInDim S10000x1 ![0] bcast_S10000_S10000x1_0 main_v52
  let main_c_9 : IVec S_ 32 := constantI S_ 32 0#32
  let main_v54 : IVec S10000x1 32 := broadcastInDim S10000x1 ![] bcast_S_S10000x1 main_c_9
  let main_v55 : IVec S10000x1 1 := cmpi .slt main_v53 main_v54
  let main_c_10 : IVec S_ 32 := constantI S_ 32 10000#32
  let main_v56 : IVec S10000x1 32 := broadcastInDim S10000x1 ![] bcast_S_S10000x1 main_c_10
  fn_part3 (F := F) main_v36 main_v50 main_indices_7 main_v51 main_v53 main_v55 main_v56

def fn_part1 {F : FTy → Type} [FloatOps F] (main_arg0 : FVec F S10000x512 .f32) (main_arg1 : FVec F S512 .f32) (main_arg2 : FVec F S512 .f32) (main_v13 : FVec F S10000x10000 .f32) (main_v17 : IVec S10000 1) (main_v18 : IVec S10000x31 32) (main_c_0 : IVec S_ 32) : IVec S10000x10000 1 :=
  let main_v19 : IVec S10000x31 32 := broadcastInDim S10000x31 ![] bcast_S_S10000x31 main_c_0
  let main_v20 : IVec S10000x31 32 := andi main_v18 main_v19
  let main_v21 : IVec S10000x31x1 32 := broadcastInDim S10000x31x1 ![0, 1] bcast_S10000x31_S10000x31x1_0_1 main_v20
  let main_v22 : IVec S10000x1x31 32 := broadcastInDim S10000x1x31 ![0, 2] bcast_S10000x31_S10000x1x31_0_2 main_v20
  let main_v23 : IVec S10000x31x31 32 := broadcastInDim S10000x31x31 ![0, 1, 2] bcast_S10000x31x1_S10000x31x31_0_1_2 main_v21
  let main_v24 : IVec S10000x31x31 32 := broadcastInDim S10000x31x31 ![0, 1, 2] bcast_S10000x1x31_S10000x31x31_0_1_2 main_v22
  let main_v25 : IVec S10000x31x31 1 := cmpi .eq main_v23 main_v24
  let main_v26 : IVec S10000x31x31 32 := (extui 32 · natLt_1_32) main_v25
  let main_c_1 : IVec S_ 32 := constantI S_ 32 0#32
  let main_v27 : IVec S10000x31 32 := (fun x v => Host.reduce IntOp.addi x v reducesTo_S10000x31x31_S10000x31_d2 h_S_) main_v26 main_c_1
  let main_c_2 : IVec S_ 32 := constantI S_ 32 4#32
  let main_v28 : IVec S10000x31 32 := broadcastInDim S10000x31 ![] bcast_S_S10000x31 main_c_2
  let main_v29 : IVec S10000x31 1 := cmpi .sle main_v27 main_v28
  let main_c_3 : IVec S_ 1 := constantI S_ 1 1#1
  let main_v30 : IVec S10000 1 := (fun x v => Host.reduce IntOp.andi x v reducesTo_S10000x31_S10000_d1 h_S_) main_v29 main_c_3
  let main_v31 : IVec S10000 1 := andi main_v17 main_v30
  let main_v32 : IVec S10000x1 1 := broadcastInDim S10000x1 ![0] bcast_S10000_S10000x1_0 main_v31
  let main_cst_4 : FVec F S_ .f32 := constant S_ .f32 0x00000000#32
  let main_v33 : FVec F S10000x10000 .f32 := broadcastInDim S10000x10000 ![] bcast_S_S10000x10000 main_cst_4
  let main_v34 : IVec S10000x10000 1 := cmpf .ole main_v13 main_v33
  let main_v35 : IVec S10000x10000 1 := broadcastInDim S10000x10000 ![0, 1] bcast_S10000x1_S10000x10000_0_1 main_v32
  let main_v36 : IVec S10000x10000 1 := ori main_v35 main_v34
  let main_v37 : FVec F S1x512 .f32 := broadcastInDim S1x512 ![1] bcast_S512_S1x512_1 main_arg1
  let main_v38 : FVec F S10000x512 .f32 := broadcastInDim S10000x512 ![0, 1] bcast_S1x512_S10000x512_0_1 main_v37
  fn_part2 (F := F) main_arg0 main_arg2 main_v36 main_v38

def fn {F : FTy → Type} [FloatOps F] (main_arg0 : FVec F S10000x512 .f32) (main_arg1 : FVec F S512 .f32) (main_arg2 : FVec F S512 .f32) : IVec S10000x10000 1 :=
  let main_v0 : FVec F S1x512 .f32 := broadcastInDim S1x512 ![1] bcast_S512_S1x512_1 main_arg1
  let main_v1 : FVec F S10000x512 .f32 := broadcastInDim S10000x512 ![0, 1] bcast_S1x512_S10000x512_0_1 main_v0
  let main_v2 : FVec F S10000x512 .f32 := mulf main_arg0 main_v1
  let main_v3 : FVec F S10000x512 .f32 := fn_relu (F := F) main_v2
  let main_v4 : FVec F S1x512 .f32 := broadcastInDim S1x512 ![1] bcast_S512_S1x512_1 main_arg2
  let main_v5 : FVec F S10000x512 .f32 := broadcastInDim S10000x512 ![0, 1] bcast_S1x512_S10000x512_0_1 main_v4
  let main_v6 : FVec F S10000x512 .f32 := mulf main_v3 main_v5
  let main_v7 : FVec F S10000x1 .f32 := fn_norm (F := F) main_v6
  let main_cst : FVec F S_ .f32 := constant S_ .f32 0x2B8CBCCC#32
  let main_v8 : FVec F S10000x1 .f32 := broadcastInDim S10000x1 ![] bcast_S_S10000x1 main_cst
  let main_v9 : FVec F S10000x1 .f32 := maximumf main_v7 main_v8
  let main_v10 : FVec F S10000x512 .f32 := broadcastInDim S10000x512 ![0, 1] bcast_S10000x1_S10000x512_0_1 main_v9
  let main_v11 : FVec F S10000x512 .f32 := Host.divf main_v6 main_v10
  let main_v12 : FVec F S512x10000 .f32 := (transpose S512x10000 [1, 0] · transposes_S10000x512_S512x10000_1_0) main_v11
  let main_v13 : FVec F S10000x10000 .f32 := (fun l r => Host.dotGeneral dot_S10000x512_S512x10000_S10000x10000_1_0_0_1_n_n none l r) main_v11 main_v12
  let main_values : FVec F S10000x32 .f32 := (fun x => (Host.topK S10000x32 1 (FloatOps.cmpfTotal .gt) x sliceFits_S10000x10000_S10000x32).1) main_v13
  let main_indices : IVec S10000x32 32 := (fun x => (Host.topK S10000x32 1 (FloatOps.cmpfTotal .gt) x sliceFits_S10000x10000_S10000x32).2) main_v13
  let main_v14 : FVec F S10000x31 .f32 := (extractStridedSlice S10000x31 ![0, 0] · slices_S10000x32_S10000x31_0_0) main_values
  let main_v15 : FVec F S10000x31 .f32 := (extractStridedSlice S10000x31 ![0, 1] · slices_S10000x32_S10000x31_0_1) main_values
  let main_v16 : IVec S10000x31 1 := cmpf .ogt main_v14 main_v15
  let main_c : IVec S_ 1 := constantI S_ 1 1#1
  let main_v17 : IVec S10000 1 := (fun x v => Host.reduce IntOp.andi x v reducesTo_S10000x31_S10000_d1 h_S_) main_v16 main_c
  let main_v18 : IVec S10000x31 32 := (extractStridedSlice S10000x31 ![0, 0] · slices_S10000x32_S10000x31_0_0) main_indices
  let main_c_0 : IVec S_ 32 := constantI S_ 32 383#32
  fn_part1 (F := F) main_arg0 main_arg1 main_arg2 main_v13 main_v17 main_v18 main_c_0
-- ==== Kernel.lean ====
abbrev S10000x512 : Shape := ⟨2, ![10000, 512]⟩
abbrev S512 : Shape := ⟨1, ![512]⟩
abbrev S_ : Shape := ⟨0, ![]⟩
abbrev S10240x512 : Shape := ⟨2, ![10240, 512]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩
abbrev S512x10240 : Shape := ⟨2, ![512, 10240]⟩
abbrev S10000x10000 : Shape := ⟨2, ![10000, 10000]⟩
abbrev S256x512 : Shape := ⟨2, ![256, 512]⟩
abbrev S256x10000 : Shape := ⟨2, ![256, 10000]⟩
abbrev S256x10240 : Shape := ⟨2, ![256, 10240]⟩
abbrev S256x128 : Shape := ⟨2, ![256, 128]⟩
abbrev S512x512 : Shape := ⟨2, ![512, 512]⟩
abbrev S256 : Shape := ⟨1, ![256]⟩
abbrev S256x1 : Shape := ⟨2, ![256, 1]⟩
abbrev S256x272 : Shape := ⟨2, ![256, 272]⟩

abbrev nBuf : Space → Nat
  | .hbm => 11
  | .vmem => 12
  | .smem => 0
  | _ => 0

abbrev bufTy : (tb : Table) → Fin (tcTables nBuf tb) → BufTy
  | .hbm, ⟨0, _⟩ => ⟨S10000x512, .f32⟩
  | .hbm, ⟨1, _⟩ => ⟨S512, .f32⟩
  | .hbm, ⟨2, _⟩ => ⟨S512, .f32⟩
  | .hbm, ⟨3, _⟩ => ⟨S_, .i32⟩
  | .hbm, ⟨4, _⟩ => ⟨S_, .f32⟩
  | .hbm, ⟨5, _⟩ => ⟨S10240x512, .f32⟩
  | .hbm, ⟨6, _⟩ => ⟨S1x512, .f32⟩
  | .hbm, ⟨7, _⟩ => ⟨S1x512, .f32⟩
  | .hbm, ⟨8, _⟩ => ⟨S10240x512, .f32⟩
  | .hbm, ⟨9, _⟩ => ⟨S512x10240, .f32⟩
  | .hbm, ⟨10, _⟩ => ⟨S10000x10000, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1x512, .f32⟩
  | .local _ .vmem, ⟨4, _⟩ => ⟨S1024x512, .f32⟩
  | .local _ .vmem, ⟨5, _⟩ => ⟨S1024x512, .f32⟩
  | .local _ .vmem, ⟨6, _⟩ => ⟨S256x512, .f32⟩
  | .local _ .vmem, ⟨7, _⟩ => ⟨S256x512, .f32⟩
  | .local _ .vmem, ⟨8, _⟩ => ⟨S512x10240, .f32⟩
  | .local _ .vmem, ⟨9, _⟩ => ⟨S256x10000, .f32⟩
  | .local _ .vmem, ⟨10, _⟩ => ⟨S256x10000, .f32⟩
  | .local _ .vmem, ⟨11, _⟩ => ⟨S256x10240, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x10240 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S10000x512 : Shape := ⟨2, ![10000, 512]⟩
abbrev S512 : Shape := ⟨1, ![512]⟩
abbrev S1x512 : Shape := ⟨2, ![1, 512]⟩
abbrev S_ : Shape := ⟨0, ![]⟩
abbrev S10000 : Shape := ⟨1, ![10000]⟩
abbrev S10000x1 : Shape := ⟨2, ![10000, 1]⟩
abbrev S512x10000 : Shape := ⟨2, ![512, 10000]⟩
abbrev S10000x10000 : Shape := ⟨2, ![10000, 10000]⟩
abbrev S10000x31 : Shape := ⟨2, ![10000, 31]⟩
abbrev S10000x31x1 : Shape := ⟨3, ![10000, 31, 1]⟩
abbrev S10000x31x2 : Shape := ⟨3, ![10000, 31, 2]⟩

abbrev nBuf : Space → Nat
  | .hbm => 55
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S512, .f32⟩
  | .hbm, ⟨2, _⟩ => ⟨S512, .f32⟩
  | .hbm, ⟨3, _⟩ => ⟨S1x512, .f32⟩
  | .hbm, ⟨4, _⟩ => ⟨S10000x512, .f32⟩
  | .hbm, ⟨5, _⟩ => ⟨S10000x512, .f32⟩
  | .hbm, ⟨6, _⟩ => ⟨S_, .f32⟩
  | .hbm, ⟨7, _⟩ => ⟨S10000x512, .f32⟩
  | .hbm, ⟨8, _⟩ => ⟨S10000x512, .f32⟩
  | .hbm, ⟨9, _⟩ => ⟨S1x512, .f32⟩
  | .hbm, ⟨10, _⟩ => ⟨S10000x512, .f32⟩
  | .hbm, ⟨11, _⟩ => ⟨S10000x512, .f32⟩
  | .hbm, ⟨12, _⟩ => ⟨S10000x512, .f32⟩
  | .hbm, ⟨13, _⟩ => ⟨S_, .f32⟩
  | .hbm, ⟨14, _⟩ => ⟨S10000, .f32⟩
  | .hbm, ⟨15, _⟩ => ⟨S10000x1, .f32⟩
  | .hbm, ⟨16, _⟩ => ⟨S10000x1, .f32⟩
  | .hbm, ⟨17, _⟩ => ⟨S_, .f32⟩
  | .hbm, ⟨18, _⟩ => ⟨S10000x1, .f32⟩
  | .hbm, ⟨19, _⟩ => ⟨S10000x1, .f32⟩
  | .hbm, ⟨20, _⟩ => ⟨S10000x512, .f32⟩
  | .hbm, ⟨21, _⟩ => ⟨S10000x512, .f32⟩
  | .hbm, ⟨22, _⟩ => ⟨S512x10000, .f32⟩
  | .hbm, ⟨23, _⟩ => ⟨S10000x10000, .f32⟩
  | .hbm, ⟨24, _⟩ => ⟨S10000x31, .f32⟩
  | .hbm, ⟨25, _⟩ => ⟨S10000x31, .i32⟩
  | .hbm, ⟨26, _⟩ => ⟨S_, .f32⟩
  | .hbm, ⟨27, _⟩ => ⟨S10000x10000, .f32⟩
  | .hbm, ⟨28, _⟩ => ⟨S10000, .i32⟩
  | .hbm, ⟨29, _⟩ => ⟨S10000x1, .i32⟩
  | .hbm, ⟨30, _⟩ => ⟨S_, .i32⟩
  | .hbm, ⟨31, _⟩ => ⟨S10000x1, .i32⟩
  | .hbm, ⟨32, _⟩ => ⟨S10000x1, .i1⟩
  | .hbm, ⟨33, _⟩ => ⟨S_, .i32⟩
  | .hbm, ⟨34, _⟩ => ⟨S10000x1, .i32⟩
  | .hbm, ⟨35, _⟩ => ⟨S10000x1, .i32⟩
  | .hbm, ⟨36, _⟩ => ⟨S10000x1, .i32⟩
  | .hbm, ⟨37, _⟩ => ⟨S_, .i32⟩
  | .hbm, ⟨38, _⟩ => ⟨S10000x31, .i32⟩
  | .hbm, ⟨39, _⟩ => ⟨S10000x31, .i1⟩
  | .hbm, ⟨40, _⟩ => ⟨S_, .i32⟩
  | .hbm, ⟨41, _⟩ => ⟨S10000x31, .i32⟩
  | .hbm, ⟨42, _⟩ => ⟨S10000x31, .i32⟩
  | .hbm, ⟨43, _⟩ => ⟨S10000x31, .i32⟩
  | .hbm, ⟨44, _⟩ => ⟨S10000x31, .i32⟩
  | .hbm, ⟨45, _⟩ => ⟨S10000x31x1, .i32⟩
  | .hbm, ⟨46, _⟩ => ⟨S10000x31x1, .i32⟩
  | .hbm, ⟨47, _⟩ => ⟨S10000x31x2, .i32⟩
  | .hbm, ⟨48, _⟩ => ⟨S_, .f32⟩
  | .hbm, ⟨49, _⟩ => ⟨S10000x31, .f32⟩
  | .hbm, ⟨50, _⟩ => ⟨S10000x10000, .f32⟩
  | .hbm, ⟨51, _⟩ => ⟨S10000x10000, .f32⟩
  | .hbm, ⟨52, _⟩ => ⟨S_, .f32⟩
  | .hbm, ⟨53, _⟩ => ⟨S10000x10000, .f32⟩
  | .hbm, ⟨54, _⟩ => ⟨S10000x10000, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_values : Ref sig .tc := ⟨.hbm, 24, rfl⟩
abbrev main_indices : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_c_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call2_cst : Ref sig .tc := ⟨.hbm, 52, rfl⟩
abbrev main_call2_v0 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Proof.KernelRun.lean ====
/- The ideal kernel's run: what its result array holds at the end, as the contents its last region leaves there. -/
module

public import proofs.«01_k».proof.Proof.Gen.KernelIdeal.Frame

@[expose] public section

noncomputable section

namespace Cert.Proof

open Cert.KernelIdeal Cert.KernelIdeal.Gen Idealize.ShloMosaic Idealize.ShloMosaic.TcCoe
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option backward.isDefEq.respectTransparency.types false in
/-- From any memory with zero counters the kernel ends, with its result array as its last region leaves it and its
    arguments as they were. -/
theorem kernel_run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v5 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.Proof

end
-- ==== Proof.Emb.lean ====
/- A row's embedding: the gated row over its norm. The first kernel's block is the embeddings of its rows. -/
module

public import proofs.«01_k».proof.Proof.Gen.KernelIdeal.Frame
public import Idealize.ShloMosaic.Lib.Pointwise
public import Idealize.ShloMosaic.Lib.Pipeline.ValueKit

@[expose] public section

noncomputable section

namespace Cert.Proof

open Cert.KernelIdeal Cert.KernelIdeal.Gen Idealize.ShloMosaic Idealize.ShloMosaic.TcCoe Idealize.ShloMosaic.Tactic

/-- The gated row: the first gate, the negative entries at zero, the second gate. -/
def gated (x u w : Fin 512 → EReal) (k : Fin 512) : EReal := max (x k * u k) 0 * w k

/-- The gated row over its norm, the norm kept from zero. -/
def emb (x u w : Fin 512 → EReal) (k : Fin 512) : EReal :=
  Ideal.div (gated x u w k)
    (max (Ideal.sqrt (∑ j, gated x u w j * gated x u w j)) (Ideal.ofBits .f32 0x2B8CBCCC#32))

set_option maxRecDepth 16384 in
theorem k0_pay1_apply (a : Vec Ideal S1024x512 .f32) (b d : Vec Ideal S1x512 .f32) (r : Fin 1024) (k : Fin 512) :
    k0_pay1 (F := Ideal) a b d (ix2 r k) = emb (fun k => a (ix2 r k)) (fun k => b (ix2 0 k)) (fun k => d (ix2 0 k)) k := by
  unfold emb gated
  pointwise [k0_pay1]

end Cert.Proof

end
-- ==== Proof.EmbArr.lean ====
/- The first region's result: the array of the rows' embeddings, the padding rows at zero. -/
module

public import proofs.«01_k».proof.Proof.Emb
public import Idealize.ShloMosaic.Lib.StableHlo.ReadAt

@[expose] public section

set_option maxRecDepth 16384

noncomputable section

namespace Cert.Proof

open Cert.KernelIdeal Cert.KernelIdeal.Gen Idealize.ShloMosaic Idealize.ShloMosaic.TcCoe Idealize.ShloMosaic.Tactic

variable (m : (ℓ : Loc nD τ sig) → Buf (Elt Ideal) ℓ) (ρ : Dev nD → PrngReg)

/-- The rows that the first region finds: the features, then rows of zeros. -/
def padded (a : Fin 10000 → Fin 512 → EReal) (r : Fin 10240) (k : Fin 512) : EReal :=
  if h : r.val < 10000 then a ⟨r.val, h⟩ k else 0

theorem V3_rows (c : Dev nD) (r : Fin 10240) (k : Fin 512) :
    (V3 m ρ c main_v0 : S10240x512.Idx → EReal) (ix2 r k)
      = padded (fun r k => (m ((c : Thread nD τ).loc main_arg0) : S10000x512.Idx → EReal) (ix2 r k)) r k := by
  have hz : (FloatOps.sitofp (F := Ideal) .f32 (0#32 : BitVec 32)) = (0 : EReal) := by
    show ((((0#32 : BitVec 32).toInt : ℝ)) : EReal) = 0
    simp
  unfold padded
  after_reads_at
  rw [hz]

theorem V3_gate (c : Dev nD) (k : Fin 512) :
    (V3 m ρ c main_v1 : S1x512.Idx → EReal) (ix2 0 k) = (m ((c : Thread nD τ).loc main_arg1) : S512.Idx → EReal) (ix1 k) := by
  after_reads_at

theorem V3_gain (c : Dev nD) (k : Fin 512) :
    (V3 m ρ c main_v2 : S1x512.Idx → EReal) (ix2 0 k) = (m ((c : Thread nD τ).loc main_arg2) : S512.Idx → EReal) (ix1 k) := by
  after_reads_at

/-- Row `r` of the padded features, embedded. -/
def embRow (c : Dev nD) (r : Fin 10240) : Fin 512 → EReal :=
  emb (padded (fun r k => (m ((c : Thread nD τ).loc main_arg0) : S10000x512.Idx → EReal) (ix2 r k)) r)
    (fun k => (m ((c : Thread nD τ).loc main_arg1) : S512.Idx → EReal) (ix1 k))
    (fun k => (m ((c : Thread nD τ).loc main_arg2) : S512.Idx → EReal) (ix1 k))

theorem idx0 : ∀ t : Fin cfg0.N, win0_0.index t = ![t.val, 0] ∧ win0_1.index t = ![0, 0] ∧ win0_2.index t = ![0, 0]
    ∧ win0_3.index t = ![t.val, 0] := by decide +kernel

theorem row0_lt (t : Fin cfg0.N) (r : Fin 1024) : 1024 * t.val + r.val < 10240 := by
  have : t.val < 10 := t.isLt
  omega

/-- One block of the first region's result. -/
theorem emb_block (c : Dev nD) (t : Fin cfg0.N) (r : Fin 1024) (k : Fin 512) :
    k0_pay1 (F := Ideal) (iblk0 (V3 m ρ) c 0 t) (iblk0 (V3 m ρ) c 1 t) (iblk0 (V3 m ρ) c 2 t) (ix2 r k)
      = embRow m c ⟨1024 * t.val + r.val, row0_lt t r⟩ k := by
  obtain ⟨e0, e1, e2, -⟩ := idx0 t
  rw [k0_pay1_apply]
  unfold embRow
  congr 1
  · funext k
    rw [← V3_rows m ρ]
    blk_ext [iblk0, e0]
  · funext k
    rw [← V3_gate m ρ]
    blk_ext [iblk0, e1]
  · funext k
    rw [← V3_gain m ρ]
    blk_ext [iblk0, e2]

/-- The first region's result. -/
theorem emb_arr (c : Dev nD) :
    (dat0 (V3 m ρ) c).arrAt 3 cfg0.N = fun i : S10240x512.Idx => embRow m c (i 0) (i 1) := by
  refine (dat0 (V3 m ρ) c).arrAt_eq_of_covers 3 _ (by decide +kernel) fun t hf y => ?_
  blk_simp
  rw [after0_3]
  frame_out
  obtain ⟨-, -, -, e3⟩ := idx0 t
  refine (congrArg (k0_pay1 (F := Ideal) (iblk0 (V3 m ρ) c 0 t) (iblk0 (V3 m ρ) c 1 t) (iblk0 (V3 m ρ) c 2 t))
    (eq_ix2 (n0 := 1024) (n1 := 512) y)).trans ((emb_block m ρ c t (y 0) (y 1)).trans ?_)
  refine congrArg₂ (embRow m c) (Fin.ext ?_) (Fin.ext ?_)
  · blk_simp [e3]
    show _ = _
    simp
    omega
  · blk_simp [e3]

end Cert.Proof

end
-- ==== Proof.Networks.lean ====
/- The compare-exchange networks of the kernel, as functions of any pair of operations `mx`, `mn`: four values sorted,
   two sorted fours merged into the four greatest, two sorted fours merged into eight, and one pop of a sorted eight.
   A network commutes with every map that takes `mx`, `mn` to `mx'`, `mn'`; so what it does to the entries of a linear
   order is read off what it does to the bits `θ ≤ x`, where there are finitely many cases. -/
module

public import Mathlib.Order.MinMax
public import Idealize.ShloMosaic.PureOps.Ideal

@[expose] public section

namespace Cert.Proof

/-- Four values. -/
structure Quad (β : Type*) where
  a : β
  b : β
  c : β
  d : β

/-- Eight values, the first the head. -/
structure Oct (β : Type*) where
  lo : Quad β
  hi : Quad β

namespace Quad
variable {β γ : Type*}

/-- The map applied to each of the four. -/
def map (f : β → γ) (q : Quad β) : Quad γ := ⟨f q.a, f q.b, f q.c, f q.d⟩

/-- How many of four bits are set. -/
def cnt (q : Quad Bool) : ℕ := q.a.toNat + q.b.toNat + q.c.toNat + q.d.toNat

/-- The set bits come first. -/
def Desc (q : Quad Bool) : Prop := (q.b → q.a) ∧ (q.c → q.b) ∧ (q.d → q.c)

instance (q : Quad Bool) : Decidable q.Desc := by unfold Desc; infer_instance

/-- The sorting network on four values. -/
def sort (mx mn : β → β → β) (q : Quad β) : Quad β :=
  ⟨mx (mx q.a q.b) (mx q.c q.d),
   mx (mx (mn q.a q.b) (mn q.c q.d)) (mn (mx q.a q.b) (mx q.c q.d)),
   mn (mx (mn q.a q.b) (mn q.c q.d)) (mn (mx q.a q.b) (mx q.c q.d)),
   mn (mn q.a q.b) (mn q.c q.d)⟩

/-- The network that sorts a bitonic four. -/
def bitonic (mx mn : β → β → β) (u : Quad β) : Quad β :=
  ⟨mx (mx u.a u.c) (mx u.b u.d), mn (mx u.a u.c) (mx u.b u.d), mx (mn u.a u.c) (mn u.b u.d), mn (mn u.a u.c) (mn u.b u.d)⟩

/-- The four greatest of two sorted fours, sorted. -/
def merge (mx mn : β → β → β) (s t : Quad β) : Quad β :=
  bitonic mx mn ⟨mx s.a t.d, mx s.b t.c, mx s.c t.b, mx s.d t.a⟩

/-- Two sorted fours merged into a sorted eight. -/
def join (mx mn : β → β → β) (s t : Quad β) : Oct β :=
  ⟨bitonic mx mn ⟨mx s.a t.d, mx s.b t.c, mx s.c t.b, mx s.d t.a⟩,
   bitonic mx mn ⟨mn s.a t.d, mn s.b t.c, mn s.c t.b, mn s.d t.a⟩⟩

section Map
variable (f : β → γ) {mx mn : β → β → β} {mx' mn' : γ → γ → γ}
  (hx : ∀ x y, f (mx x y) = mx' (f x) (f y)) (hn : ∀ x y, f (mn x y) = mn' (f x) (f y))
include hx hn

theorem map_sort (q : Quad β) : (q.sort mx mn).map f = (q.map f).sort mx' mn' := by
  simp only [sort, map, hx, hn]

theorem map_merge (s t : Quad β) : (s.merge mx mn t).map f = (s.map f).merge mx' mn' (t.map f) := by
  simp only [merge, bitonic, map, hx, hn]

theorem map_join_lo (s t : Quad β) : (s.join mx mn t).lo.map f = ((s.map f).join mx' mn' (t.map f)).lo := by
  simp only [join, bitonic, map, hx, hn]

theorem map_join_hi (s t : Quad β) : (s.join mx mn t).hi.map f = ((s.map f).join mx' mn' (t.map f)).hi := by
  simp only [join, bitonic, map, hx, hn]

end Map

/-- A statement about four bits, from its sixteen cases. -/
theorem forall_bits {P : Quad Bool → Prop} (h : ∀ a b c d, P ⟨a, b, c, d⟩) (q : Quad Bool) : P q := h q.a q.b q.c q.d

theorem sort_bits (q : Quad Bool) : (q.sort or and).Desc ∧ (q.sort or and).cnt = q.cnt := by
  revert q; exact forall_bits (by decide)

theorem merge_bits (s t : Quad Bool) : s.Desc → t.Desc →
    (s.merge or and t).Desc ∧ (s.merge or and t).cnt = min 4 (s.cnt + t.cnt) := by
  revert s; refine forall_bits fun a b c d => ?_
  revert t; refine forall_bits ?_
  revert a b c d; decide

end Quad

namespace Oct
variable {β γ : Type*}

/-- The map applied to each of the eight. -/
def map (f : β → γ) (o : Oct β) : Oct γ := ⟨o.lo.map f, o.hi.map f⟩

/-- The greatest of a sorted eight. -/
def head (o : Oct β) : β := o.lo.a

/-- The eight moved up by one, `neg` at the end. -/
def shift (neg : β) (o : Oct β) : Oct β := ⟨⟨o.lo.b, o.lo.c, o.lo.d, o.hi.a⟩, ⟨o.hi.b, o.hi.c, o.hi.d, neg⟩⟩

/-- How many of eight bits are set. -/
def cnt (o : Oct Bool) : ℕ := o.lo.cnt + o.hi.cnt

/-- The set bits come first. -/
def Desc (o : Oct Bool) : Prop := o.lo.Desc ∧ o.hi.Desc ∧ (o.hi.a → o.lo.d)

instance (o : Oct Bool) : Decidable o.Desc := by unfold Desc; infer_instance

/-- A statement about eight bits, from its cases. -/
theorem forall_bits {P : Oct Bool → Prop} (h : ∀ a b c d e f g i, P ⟨⟨a, b, c, d⟩, ⟨e, f, g, i⟩⟩) (o : Oct Bool) : P o :=
  h o.lo.a o.lo.b o.lo.c o.lo.d o.hi.a o.hi.b o.hi.c o.hi.d

theorem shift_bits (o : Oct Bool) : o.Desc → (o.shift false).Desc ∧ (o.shift false).cnt = o.cnt - 1 := by
  revert o; exact forall_bits (by decide)

theorem head_bits (o : Oct Bool) : o.Desc → (o.head = true ↔ 0 < o.cnt) := by
  revert o; exact forall_bits (by decide)

end Oct

theorem join_bits (s t : Quad Bool) : s.Desc → t.Desc →
    (s.join or and t).Desc ∧ (s.join or and t).cnt = s.cnt + t.cnt := by
  revert s; refine Quad.forall_bits fun a b c d => ?_
  revert t; refine Quad.forall_bits ?_
  revert a b c d; decide

/-! ## The same over a linear order, threshold by threshold -/

section Order
variable {α : Type*} [LinearOrder α]

/-- Whether an entry reaches the threshold. -/
def ge (θ x : α) : Bool := decide (θ ≤ x)

theorem ge_iff (θ x : α) : ge θ x = true ↔ θ ≤ x := by simp [ge]

theorem ge_max (θ x y : α) : ge θ (max x y) = or (ge θ x) (ge θ y) := by
  simp only [ge, le_max_iff, Bool.decide_or]

theorem ge_min (θ x y : α) : ge θ (min x y) = and (ge θ x) (ge θ y) := by
  simp only [ge, le_min_iff, Bool.decide_and]

/-- How many of four entries reach the threshold. -/
def Quad.cntGe (θ : α) (q : Quad α) : ℕ := (q.map (ge θ)).cnt

/-- How many of eight entries reach the threshold. -/
def Oct.cntGe (θ : α) (o : Oct α) : ℕ := (o.map (ge θ)).cnt

/-- The four are sorted as far as thresholds above `neg` can tell. -/
def Quad.Sorted (neg : α) (q : Quad α) : Prop := ∀ θ, neg < θ → (q.map (ge θ)).Desc

/-- The eight are sorted as far as thresholds above `neg` can tell. -/
def Oct.Sorted (neg : α) (o : Oct α) : Prop := ∀ θ, neg < θ → (o.map (ge θ)).Desc

theorem Quad.sorted_sort (neg : α) (q : Quad α) : (q.sort max min).Sorted neg := fun θ _ => by
  rw [Quad.map_sort (ge θ) (ge_max θ) (ge_min θ)]; exact (Quad.sort_bits _).1

theorem Quad.cntGe_sort (θ : α) (q : Quad α) : (q.sort max min).cntGe θ = q.cntGe θ := by
  unfold Quad.cntGe; rw [Quad.map_sort (ge θ) (ge_max θ) (ge_min θ)]; exact (Quad.sort_bits _).2

theorem Quad.sorted_merge {neg : α} {s t : Quad α} (hs : s.Sorted neg) (ht : t.Sorted neg) :
    (s.merge max min t).Sorted neg := fun θ h => by
  rw [Quad.map_merge (ge θ) (ge_max θ) (ge_min θ)]; exact (Quad.merge_bits _ _ (hs θ h) (ht θ h)).1

theorem Quad.cntGe_merge {neg : α} {s t : Quad α} (hs : s.Sorted neg) (ht : t.Sorted neg) {θ : α} (h : neg < θ) :
    (s.merge max min t).cntGe θ = min 4 (s.cntGe θ + t.cntGe θ) := by
  unfold Quad.cntGe; rw [Quad.map_merge (ge θ) (ge_max θ) (ge_min θ)]
  exact (Quad.merge_bits _ _ (hs θ h) (ht θ h)).2

theorem Oct.map_join (θ : α) (s t : Quad α) :
    (s.join max min t).map (ge θ) = (s.map (ge θ)).join or and (t.map (ge θ)) := by
  unfold Oct.map
  rw [Quad.map_join_lo (ge θ) (ge_max θ) (ge_min θ), Quad.map_join_hi (ge θ) (ge_max θ) (ge_min θ)]

theorem Oct.sorted_join {neg : α} {s t : Quad α} (hs : s.Sorted neg) (ht : t.Sorted neg) :
    (s.join max min t).Sorted neg := fun θ h => by
  rw [Oct.map_join]; exact (join_bits _ _ (hs θ h) (ht θ h)).1

theorem Oct.cntGe_join {neg : α} {s t : Quad α} (hs : s.Sorted neg) (ht : t.Sorted neg) {θ : α} (h : neg < θ) :
    (s.join max min t).cntGe θ = s.cntGe θ + t.cntGe θ := by
  unfold Oct.cntGe Quad.cntGe; rw [Oct.map_join]; exact (join_bits _ _ (hs θ h) (ht θ h)).2

theorem Oct.map_shift {neg θ : α} (h : neg < θ) (o : Oct α) : (o.shift neg).map (ge θ) = (o.map (ge θ)).shift false := by
  have : ge θ neg = false := by simp [ge, h]
  simp only [Oct.shift, Oct.map, Quad.map, this]

theorem Oct.sorted_shift {neg : α} {o : Oct α} (ho : o.Sorted neg) : (o.shift neg).Sorted neg := fun θ h => by
  rw [Oct.map_shift h]; exact (Oct.shift_bits _ (ho θ h)).1

theorem Oct.cntGe_shift {neg : α} {o : Oct α} (ho : o.Sorted neg) {θ : α} (h : neg < θ) :
    (o.shift neg).cntGe θ = o.cntGe θ - 1 := by
  unfold Oct.cntGe; rw [Oct.map_shift h]; exact (Oct.shift_bits _ (ho θ h)).2

/-- The head of a sorted eight reaches a threshold just when some entry does. -/
theorem Oct.le_head {neg : α} {o : Oct α} (ho : o.Sorted neg) {θ : α} (h : neg < θ) : θ ≤ o.head ↔ 0 < o.cntGe θ := by
  rw [← ge_iff]; exact Oct.head_bits _ (ho θ h)

end Order

end Cert.Proof
-- ==== Proof.Strip.lean ====
/- The strip kernel's body on one block of rows, as functions of the row block and of the column tiles: the tiles, the
   four greatest kept per lane and half tile, the eight joined per lane, the thirty-one pops. Each is the kernel's own
   vector operations, arranged by the networks of `Networks`. -/
module

public import proofs.«01_k».proof.Proof.Networks
public import proofs.«01_k».proof.Proof.Gen.KernelIdeal.Frame

@[expose] public section

noncomputable section

namespace Cert.Proof

open Cert.KernelIdeal Cert.KernelIdeal.Gen Idealize.ShloMosaic Idealize.ShloMosaic.TcCoe

variable {F : FTy → Type} [FloatOps F]

/-- The value that marks an empty place, in every lane. -/
def empties : FVec F S256x128 .f32 := broadcast S256x128 (Scalar.ofBits .f32 0xBF800000#32)

/-- The similarities of a block of rows with a tile of columns, the negative ones at zero. -/
def tileV (a : Vec F S256x512 .f32) (b : Vec F S512x512 .f32) : FVec F S256x512 .f32 :=
  maximumf (matmul dot_S256x512_S512x512_S256x512_1_0_0_1_n_n none
      (shapeCast S256x512 a shapeCasts_S256x512_S256x512) (shapeCast S512x512 b shapeCasts_S512x512_S512x512)
      (constant S256x512 .f32 0x00000000#32))
    (broadcast S256x512 (Scalar.ofBits .f32 0x00000000#32))

/-- Half `g` of two neighbouring tiles as four slices of 128 lanes. -/
def batchV (t u : FVec F S256x512 .f32) : Fin 2 → Quad (FVec F S256x128 .f32)
  | ⟨0, _⟩ => ⟨extractStridedSlice S256x128 ![0, 0] t slices_S256x512_o0_0_S256x128,
      extractStridedSlice S256x128 ![0, 128] t slices_S256x512_o0_128_S256x128,
      extractStridedSlice S256x128 ![0, 0] u slices_S256x512_o0_0_S256x128,
      extractStridedSlice S256x128 ![0, 128] u slices_S256x512_o0_128_S256x128⟩
  | ⟨1, _⟩ => ⟨extractStridedSlice S256x128 ![0, 256] t slices_S256x512_o0_256_S256x128,
      extractStridedSlice S256x128 ![0, 384] t slices_S256x512_o0_384_S256x128,
      extractStridedSlice S256x128 ![0, 256] u slices_S256x512_o0_256_S256x128,
      extractStridedSlice S256x128 ![0, 384] u slices_S256x512_o0_384_S256x128⟩

/-- The four greatest kept of half `g` after `n` pairs of tiles, of which `T j` is the `j`th. -/
def slotsV (T : ℕ → FVec F S256x512 .f32) (g : Fin 2) : ℕ → Quad (FVec F S256x128 .f32)
  | 0 => ⟨empties, empties, empties, empties⟩
  | n + 1 => (slotsV T g n).merge maximumf minimumf ((batchV (T (2 * n)) (T (2 * n + 1)) g).sort maximumf minimumf)

/-- The greatest head of each row. -/
def topV (o : Oct (FVec F S256x128 .f32)) : FVec F S256x1 .f32 :=
  shapeCast S256x1 (multiReduction .maximumf [1] S256 o.head 0xFF800000#32 reduces_S256x128_S256 (.inl rfl) rfl)
    shapeCasts_S256_S256x1

/-- One pop: in each row, the lanes whose head is the greatest move up by one. -/
def popV (o : Oct (FVec F S256x128 .f32)) : Oct (FVec F S256x128 .f32) :=
  let here : IVec S256x128 1 := cmpf .oeq o.head (broadcastTo S256x128 (topV o) broadcasts_S256x1_S256x128)
  ⟨⟨select here o.lo.b o.lo.a, select here o.lo.c o.lo.b, select here o.lo.d o.lo.c, select here o.hi.a o.lo.d⟩,
   ⟨select here o.hi.b o.hi.a, select here o.hi.c o.hi.b, select here o.hi.d o.hi.c, select here empties o.hi.d⟩⟩

/-- The eight kept per lane after `n` pops. -/
def stateV (T : ℕ → FVec F S256x512 .f32) : ℕ → Oct (FVec F S256x128 .f32)
  | 0 => (slotsV T 0 10).join maximumf minimumf (slotsV T 1 10)
  | n + 1 => popV (stateV T n)

/-- The value popped last: the threshold of each row. -/
def cutV (T : ℕ → FVec F S256x512 .f32) : FVec F S256x1 .f32 := topV (stateV T 30)

/-- A tile, with the entries below the threshold at zero. -/
def keptV (t : FVec F S256x512 .f32) (cut : FVec F S256x1 .f32) : FVec F S256x512 .f32 :=
  select (cmpf .oge t (broadcastTo S256x512 cut broadcasts_S256x1_S256x512)) t
    (broadcast S256x512 (Scalar.ofBits .f32 0x00000000#32))

end Cert.Proof

end
-- ==== Proof.Block.lean ====
/- One block of the strip kernel's output, entry by entry: the pieces that the body's run leaves are the tiles with the
   entries below the row's threshold at zero. -/
module

public import proofs.«01_k».proof.Proof.Strip
public import Idealize.ShloMosaic.Lib.Pipeline.ReadBack
public import Idealize.ShloMosaic.Lib.Pipeline.ValueKit

@[expose] public section

noncomputable section

namespace Cert.Proof

open Cert.KernelIdeal Cert.KernelIdeal.Gen Idealize.ShloMosaic Idealize.ShloMosaic.TcCoe Idealize.ShloMosaic.Tactic

variable {F : FTy → Type} [FloatOps F]

theorem inbCols (j : ℕ) : ∀ a, (![0, 512 * (j % 20)] : Fin 2 → Nat) a + S512x512.size a ≤ S512x10240.size a := by
  have := Nat.mod_lt j (by decide : 0 < 20)
  intro a; fin_cases a <;> simp <;> omega

theorem inbStrip (j : ℕ) : ∀ a, (![0, 512 * (j % 20)] : Fin 2 → Nat) a + S256x512.size a ≤ S256x10240.size a := by
  have := Nat.mod_lt j (by decide : 0 < 20)
  intro a; fin_cases a <;> simp <;> omega

theorem inbOut (j : ℕ) : ∀ a, (![0, 512 * (j % 19)] : Fin 2 → Nat) a + S256x512.size a ≤ S256x10000.size a := by
  have := Nat.mod_lt j (by decide : 0 < 19)
  intro a; fin_cases a <;> simp <;> omega

section
variable (c : Dev nD) (i : grid1.Coords) (arg1 : Memref sig .tc .vmem S256x512 .f32) (harg1 : arg1.IsWhole)
  (arg2 : Memref sig .tc .vmem S512x10240 .f32) (harg2 : arg2.IsWhole)
  (arg3 : Memref sig .tc .vmem S256x10000 .f32) (harg3 : arg3.IsWhole)
  (arg4 : Memref sig .tc .vmem S256x10240 .f32) (harg4 : arg4.IsWhole)
  (x0 : Vec F S256x512 .f32) (x1 : Vec F S512x10240 .f32)

/-- The block of rows as the body loads it. -/
def rowsL : Vec F S256x512 .f32 :=
  View.readAt (Elt F) arg1.view (Rect.unit (s := S256x512) ![0, 0] S256x512.size inb_S256x512_S256x512_0_0).toLoadRect (harg1.unread x0)

/-- The `j`th tile of columns as the body loads it. -/
def colsL (j : ℕ) : Vec F S512x512 .f32 :=
  View.readAt (Elt F) arg2.view (Rect.unit (s := S512x10240) ![0, 512 * (j % 20)] S512x512.size (inbCols j)).toLoadRect (harg2.unread x1)

/-- The `j`th tile of similarities as the body computes it. -/
def tileL (j : ℕ) : FVec F S256x512 .f32 := tileV (rowsL arg1 harg1 x0) (colsL arg2 harg2 x1 j)

set_option maxRecDepth 100000 in
theorem cut_eq : kernelRun1_A.sl.r_190 c arg1 harg1 arg2 harg2 x0 x1 = cutV (tileL arg1 harg1 arg2 harg2 x0 x1) := by
  sl_kernel_rfl

/-- The store of tile `j` into the strip. -/
def stripPiece (T : ℕ → FVec F S256x512 .f32) (j : ℕ) : View.Piece (Elt F) S256x10240 .f32 :=
  ⟨Rect.unit (s := S256x10240) ![0, 512 * (j % 20)] S256x512.size (inbStrip j), shapeCast S256x512 (T j) shapeCasts_S256x512_S256x512⟩

set_option maxRecDepth 100000 in
theorem strip_eq : kernelRun1_A.sl.HS0_20 c arg1 harg1 arg2 harg2 x0 x1
    = List.ofFn fun k : Fin 20 => stripPiece (tileL arg1 harg1 arg2 harg2 x0 x1) (19 - k.val) := by
  sl_kernel_rfl

/-- What the strip's tile `j` reads back as. -/
def backL (L : List (View.Piece (Elt F) S256x10240 .f32)) (j : ℕ) : Vec F S256x512 .f32 :=
  arg4.view.readCov L (Rect.unit (s := S256x10240) ![0, 512 * (j % 20)] S256x512.size (inbStrip j)).toLoadRect

set_option maxRecDepth 100000 in
theorem pieces_eq : (kernelRun1_A c i arg1 harg1 arg2 harg2 arg3 harg3 arg4 harg4 x0 x1).1
    = ⟨Rect.unit (s := S256x10000) ![0, 9728] S256x272.size inb_S256x10000_S256x272_0_9728,
        extractStridedSlice S256x272 ![0, 0]
          (keptV (backL arg4 (kernelRun1_A.sl.HS0_20 c arg1 harg1 arg2 harg2 x0 x1) 19) (kernelRun1_A.sl.r_190 c arg1 harg1 arg2 harg2 x0 x1))
          slices_S256x512_o0_0_S256x272⟩
      :: List.ofFn fun k : Fin 19 => ⟨Rect.unit (s := S256x10000) ![0, 512 * ((18 - k.val) % 19)] S256x512.size (inbOut _),
          keptV (backL arg4 (kernelRun1_A.sl.HS0_20 c arg1 harg1 arg2 harg2 x0 x1) (18 - k.val)) (kernelRun1_A.sl.r_190 c arg1 harg1 arg2 harg2 x0 x1)⟩ := by
  sl_kernel_rfl
end

end Cert.Proof

end
-- ==== Proof.Pops.lean ====
/- The kernel's threshold of one row, on extended reals: per lane the four greatest of each half tile's columns, the two
   fours joined into a sorted eight, then thirty pops of the greatest head over the lanes and the greatest head left. How
   many of the kept values reach a threshold is followed through all of it. -/
module

public import proofs.«01_k».proof.Proof.Networks
public import Idealize.ShloMosaic.Lib.Pipeline.ValueKit

@[expose] public section

noncomputable section

namespace Cert.Proof

/-- The greatest of the lanes' heads. -/
def top (h : Fin 128 → EReal) : EReal := Finset.univ.fold max ⊥ h

/-- Every lane whose head is the greatest moves up by one. -/
def pop (neg : EReal) (o : Fin 128 → Oct EReal) : Fin 128 → Oct EReal := fun l =>
  if (o l).head = top (fun l => (o l).head) then (o l).shift neg else o l

/-- The four columns that lane `l`, half `g` sees of the `n`th pair of tiles. -/
def batch (v : ℕ → EReal) (l g n : ℕ) : Quad EReal :=
  ⟨v (1024 * n + 256 * g + l), v (1024 * n + 256 * g + 128 + l),
   v (1024 * n + 512 + 256 * g + l), v (1024 * n + 512 + 256 * g + 128 + l)⟩

/-- The four greatest that lane `l`, half `g` keeps after `n` pairs of tiles. -/
def slots (neg : EReal) (v : ℕ → EReal) (l g : ℕ) : ℕ → Quad EReal
  | 0 => ⟨neg, neg, neg, neg⟩
  | n + 1 => (slots neg v l g n).merge max min ((batch v l g n).sort max min)

/-- The eight that lane `l` holds before the first pop. -/
def start (neg : EReal) (v : ℕ → EReal) (l : Fin 128) : Oct EReal :=
  (slots neg v l.val 0 10).join max min (slots neg v l.val 1 10)

/-- The threshold of the row `v`. -/
def cut (neg : EReal) (v : ℕ → EReal) : EReal := top fun l => ((pop neg)^[30] (start neg v) l).head

/-- How many of the lanes' entries reach the threshold. -/
def total (θ : EReal) (o : Fin 128 → Oct EReal) : ℕ := ∑ l, (o l).cntGe θ

section Popping
variable {neg θ : EReal} {o : Fin 128 → Oct EReal}

theorem le_top_iff (h : Fin 128 → EReal) (hθ : neg < θ) : θ ≤ top h ↔ ∃ l, θ ≤ h l := by
  have hb : ¬ θ ≤ ⊥ := not_le.2 (lt_of_le_of_lt bot_le hθ)
  unfold top
  rw [Finset.le_fold_max]
  simp [hb]

theorem head_le_top (h : Fin 128 → EReal) (l : Fin 128) : h l ≤ top h := by
  unfold top
  rw [Finset.le_fold_max]
  exact .inr ⟨l, Finset.mem_univ l, le_rfl⟩

theorem le_top_iff_total (ho : ∀ l, (o l).Sorted neg) (hθ : neg < θ) :
    θ ≤ top (fun l => (o l).head) ↔ 0 < total θ o := by
  rw [le_top_iff _ hθ]
  unfold total
  rw [Finset.sum_pos_iff]
  simp only [Finset.mem_univ, true_and, Oct.le_head (ho _) hθ]

theorem sorted_pop (ho : ∀ l, (o l).Sorted neg) (l : Fin 128) : (pop neg o l).Sorted neg := by
  unfold pop; split
  · exact Oct.sorted_shift (ho l)
  · exact ho l

/-- A pop takes one from the count of each popped lane. -/
theorem cntGe_pop (ho : ∀ l, (o l).Sorted neg) (hθ : neg < θ) (l : Fin 128) :
    (pop neg o l).cntGe θ = (o l).cntGe θ - if (o l).head = top (fun l => (o l).head) then 1 else 0 := by
  unfold pop; split
  · exact Oct.cntGe_shift (ho l) hθ
  · rfl

theorem total_pop_le (ho : ∀ l, (o l).Sorted neg) (hθ : neg < θ) : total θ (pop neg o) ≤ total θ o :=
  Finset.sum_le_sum fun l _ => by rw [cntGe_pop ho hθ]; exact Nat.sub_le _ _

/-- A pop at or above the threshold takes at least one. -/
theorem total_pop_lt (ho : ∀ l, (o l).Sorted neg) (hθ : neg < θ) (h : θ ≤ top (fun l => (o l).head)) :
    total θ (pop neg o) < total θ o := by
  obtain ⟨l, hl⟩ := (le_top_iff (neg := neg) (θ := top fun l => (o l).head) (fun l => (o l).head) (lt_of_lt_of_le hθ h)).1 le_rfl
  have e : (o l).head = top (fun l => (o l).head) := le_antisymm (head_le_top (fun l => (o l).head) l) hl
  refine Finset.sum_lt_sum (fun l _ => by rw [cntGe_pop ho hθ]; exact Nat.sub_le _ _) ⟨l, Finset.mem_univ l, ?_⟩
  rw [cntGe_pop ho hθ, if_pos e]
  have : 0 < (o l).cntGe θ := (Oct.le_head (ho l) hθ).1 (h.trans hl)
  omega

/-- The value left at the head after `n` pops is reached by more than `n` of the entries. -/
theorem total_of_le_top (hθ : neg < θ) : ∀ (n : ℕ) (o : Fin 128 → Oct EReal), (∀ l, (o l).Sorted neg) →
    θ ≤ top (fun l => ((pop neg)^[n] o l).head) → n < total θ o
  | 0, o, ho, h => (le_top_iff_total ho hθ).1 h
  | n + 1, o, ho, h => by
    have ih := total_of_le_top hθ n (pop neg o) (sorted_pop ho) h
    have hle := total_pop_le ho hθ
    have := total_pop_lt ho hθ ((le_top_iff_total ho hθ).2 (by omega))
    omega

/-- How many of `a 0`, …, `a n` reach the threshold. -/
def ranked (θ : EReal) (a : ℕ → EReal) (n : ℕ) : ℕ := ∑ i ∈ Finset.range (n + 1), if θ ≤ a i then 1 else 0

theorem total_pop_ge (ho : ∀ l, (o l).Sorted neg) (hθ : neg < θ) (h : θ ≤ top (fun l => (o l).head))
    (h1 : total (top (fun l => (o l).head)) o ≤ 1) : total θ o ≤ total θ (pop neg o) + 1 := by
  have hn : neg < top (fun l => (o l).head) := lt_of_lt_of_le hθ h
  refine le_trans ?_ (Nat.add_le_add_left h1 _)
  unfold total
  rw [← Finset.sum_add_distrib]
  refine Finset.sum_le_sum fun l _ => ?_
  rw [cntGe_pop ho hθ]
  by_cases e : (o l).head = top (fun l => (o l).head)
  · have := (Oct.le_head (ho l) hn).1 e.ge
    rw [if_pos e]; omega
  · rw [if_neg e]; omega

/-- Where the entries that reach the last of `n + 1` falling values are as many as these, the value left at the head after
    `n` pops reaches it. -/
theorem le_top_of_total : ∀ (n : ℕ) (a : ℕ → EReal) (o : Fin 128 → Oct EReal), (∀ l, (o l).Sorted neg) →
    (∀ i, i < n → a (i + 1) < a i) → neg < a n → (∀ θ, a n ≤ θ → total θ o = ranked θ a n) →
    a n ≤ top (fun l => ((pop neg)^[n] o l).head)
  | 0, a, o, ho, _, hn, ht => by
    rw [show (pop neg)^[0] o = o from rfl, le_top_iff_total ho hn, ht _ le_rfl]
    simp only [ranked, zero_add, Finset.sum_range_one, le_refl, if_true]
    exact Nat.one_pos
  | n + 1, a, o, ho, ha, hn, ht => by
    have mono : ∀ i, i ≤ n + 1 → a i ≤ a 0 := by
      intro i; induction i with
      | zero => intro _; exact le_rfl
      | succ i ih => intro hi; exact (ha i (by omega)).le.trans (ih (by omega))
    have lt0 : ∀ i, i ≤ n → a (i + 1) < a 0 := fun i hi => lt_of_lt_of_le (ha i (by omega)) (mono i (by omega))
    have h0 : neg < a 0 := lt_of_lt_of_le hn (mono _ le_rfl)
    have split (θ : EReal) : ranked θ a (n + 1) = ranked θ (fun i => a (i + 1)) n + if θ ≤ a 0 then 1 else 0 :=
      Finset.sum_range_succ' _ _
    have zero (θ : EReal) (h : a 0 ≤ θ) : ranked θ (fun i => a (i + 1)) n = 0 :=
      Finset.sum_eq_zero fun i hi => if_neg (not_le.2 (lt_of_lt_of_le (lt0 i (by have := Finset.mem_range.1 hi; omega)) h))
    have hle : a 0 ≤ top (fun l => (o l).head) := by
      rw [le_top_iff_total ho h0, ht _ (mono _ le_rfl), split, if_pos le_rfl]; omega
    have top_eq : top (fun l => (o l).head) = a 0 := by
      refine le_antisymm (not_lt.1 fun hlt => ?_) hle
      have := (le_top_iff_total ho (h0.trans hlt)).1 le_rfl
      rw [ht _ ((mono _ le_rfl).trans hle), split, zero _ hlt.le, if_neg (not_le.2 hlt)] at this
      omega
    have one : total (top fun l => (o l).head) o ≤ 1 := by
      rw [top_eq, ht _ (mono _ le_rfl), split, zero _ le_rfl, if_pos le_rfl]
    refine le_top_of_total n (fun i => a (i + 1)) (pop neg o) (sorted_pop ho) (fun i hi => ha (i + 1) (by omega)) hn fun θ hθ => ?_
    have hθn : neg < θ := lt_of_lt_of_le hn hθ
    have e := ht θ hθ
    rw [split] at e
    by_cases hc : θ ≤ a 0
    · rw [if_pos hc] at e
      have h1 := total_pop_ge ho hθn (hc.trans hle) one
      have h2 := total_pop_lt ho hθn (hc.trans hle)
      omega
    · have h2 := total_pop_le ho hθn
      rw [if_neg hc, zero _ (not_le.1 hc).le] at e
      rw [zero _ (not_le.1 hc).le]
      omega

end Popping

/-! ## What the lanes hold before the first pop -/

section Start
variable {neg θ : EReal} (v : ℕ → EReal)

theorem sorted_slots (l g : ℕ) : ∀ n, (slots neg v l g n).Sorted neg
  | 0 => fun θ hθ => by
    have : ge θ neg = false := by simp [ge, hθ]
    simp [slots, Quad.map, Quad.Desc, this]
  | n + 1 => Quad.sorted_merge (sorted_slots l g n) (Quad.sorted_sort _ _)

theorem cntGe_slots (hθ : neg < θ) (l g : ℕ) :
    ∀ n, (slots neg v l g n).cntGe θ = min 4 (∑ m ∈ Finset.range n, (batch v l g m).cntGe θ)
  | 0 => by
    have : ge θ neg = false := by simp [ge, hθ]
    simp [slots, Quad.cntGe, Quad.map, Quad.cnt, this]
  | n + 1 => by
    rw [slots, Quad.cntGe_merge (sorted_slots v l g n) (Quad.sorted_sort _ _) hθ, Quad.cntGe_sort, cntGe_slots hθ l g n,
      Finset.sum_range_succ]
    omega

theorem sorted_start (l : Fin 128) : (start neg v l).Sorted neg :=
  Oct.sorted_join (sorted_slots v _ _ _) (sorted_slots v _ _ _)

/-- The columns below `10240` of lane `l`, half `g` that reach the threshold. -/
def reach (θ : EReal) (l g : ℕ) : Finset ℕ :=
  (Finset.range 10240).filter fun c => (c % 128 = l ∧ c / 256 % 2 = g) ∧ θ ≤ v c

theorem sum_batches (f : ℕ → ℕ) : ∑ c ∈ Finset.range 10240, f c
    = ∑ m ∈ Finset.range 10, ∑ q ∈ Finset.range 8, ∑ l ∈ Finset.range 128, f (1024 * m + 128 * q + l) := by
  rw [show 10240 = 10 * 1024 from rfl, Finset.sum_range_mul_split 10 1024]
  refine Finset.sum_congr rfl fun m _ => ?_
  rw [show 1024 = 8 * 128 from rfl, Finset.sum_range_mul_split 8 128 fun b => f (m * (8 * 128) + b)]
  refine Finset.sum_congr rfl fun q _ => Finset.sum_congr rfl fun l _ => congrArg f (by omega)

theorem card_reach (l g : ℕ) (hl : l < 128) (hg : g < 2) :
    (reach v θ l g).card = ∑ m ∈ Finset.range 10, (batch v l g m).cntGe θ := by
  unfold reach
  rw [Finset.card_filter, sum_batches]
  refine Finset.sum_congr rfl fun m _ => ?_
  have lane : ∀ q, q < 8 → (∑ k ∈ Finset.range 128,
        if (((1024 * m + 128 * q + k) % 128 = l ∧ (1024 * m + 128 * q + k) / 256 % 2 = g) ∧ θ ≤ v (1024 * m + 128 * q + k)) then 1 else 0)
      = if q / 2 % 2 = g ∧ θ ≤ v (1024 * m + 128 * q + l) then 1 else 0 := by
    intro q hq
    rw [Finset.sum_eq_single l (fun k hk hne => if_neg fun h => hne (by have := Finset.mem_range.1 hk; omega))
      (fun h => absurd (Finset.mem_range.2 hl) h)]
    refine if_congr ?_ rfl rfl
    rw [show (1024 * m + 128 * q + l) % 128 = l by omega, show (1024 * m + 128 * q + l) / 256 % 2 = q / 2 % 2 by omega]
    simp
  rw [Finset.sum_congr rfl fun q hq => lane q (Finset.mem_range.1 hq)]
  have bit (P : Prop) [Decidable P] : (if P then 1 else 0) = (decide P).toNat := by by_cases h : P <;> simp [h]
  obtain rfl | rfl : g = 0 ∨ g = 1 := by omega
  · have e : batch v l 0 m = ⟨v (1024 * m + l), v (1024 * m + 128 + l), v (1024 * m + 512 + l), v (1024 * m + 640 + l)⟩ := by
      unfold batch; congr 2
    rw [e]
    simp only [Finset.sum_range_succ, Finset.sum_range_zero, Nat.reduceDiv, Nat.reduceMod, Nat.reduceMul, Nat.reduceEqDiff,
      true_and, false_and, if_false, reduceCtorEq, add_zero, zero_add, mul_zero, bit, decide_false, Bool.toNat_false, Quad.cntGe, Quad.cnt, Quad.map, ge]
  · have e : batch v l 1 m = ⟨v (1024 * m + 256 + l), v (1024 * m + 384 + l), v (1024 * m + 768 + l), v (1024 * m + 896 + l)⟩ := by
      unfold batch; congr 2
    rw [e]
    simp only [Finset.sum_range_succ, Finset.sum_range_zero, Nat.reduceDiv, Nat.reduceMod, Nat.reduceMul, Nat.reduceEqDiff,
      true_and, false_and, if_false, reduceCtorEq, add_zero, zero_add, mul_one, bit, decide_false, Bool.toNat_false, Quad.cntGe, Quad.cnt, Quad.map, ge]

theorem total_start (hθ : neg < θ) :
    total θ (start neg v) = ∑ l : Fin 128, (min 4 (reach v θ l.val 0).card + min 4 (reach v θ l.val 1).card) := by
  refine Finset.sum_congr rfl fun l _ => ?_
  rw [start, Oct.cntGe_join (sorted_slots v _ _ _) (sorted_slots v _ _ _) hθ, cntGe_slots v hθ, cntGe_slots v hθ,
    card_reach v l.val 0 l.isLt (by decide), card_reach v l.val 1 l.isLt (by decide)]

theorem sum_reach : ∑ l : Fin 128, ((reach v θ l.val 0).card + (reach v θ l.val 1).card)
    = ((Finset.range 10240).filter fun c => θ ≤ v c).card := by
  unfold reach
  simp only [Finset.card_filter]
  rw [Finset.sum_add_distrib, Finset.sum_comm, Finset.sum_comm (s := Finset.univ), ← Finset.sum_add_distrib]
  refine Finset.sum_congr rfl fun c _ => ?_
  have one (g : ℕ) : (∑ l : Fin 128, if (c % 128 = l.val ∧ c / 256 % 2 = g) ∧ θ ≤ v c then 1 else 0)
      = if c / 256 % 2 = g ∧ θ ≤ v c then 1 else 0 := by
    rw [Finset.sum_eq_single (⟨c % 128, Nat.mod_lt _ (by decide)⟩ : Fin 128)
      (fun l _ hne => if_neg fun h => hne (Fin.ext h.1.1.symm)) (fun h => absurd (Finset.mem_univ _) h)]
    simp
  rw [one, one]
  have : c / 256 % 2 = 0 ∨ c / 256 % 2 = 1 := by omega
  by_cases h : θ ≤ v c <;> rcases this with e | e <;> simp [e, h]

end Start

end Cert.Proof

end
-- ==== Proof.Lanes.lean ====
/- The strip kernel's vector operations at `Ideal`, read lane by lane: a row of the block is a row of extended reals, its
   lanes' kept values are fours and eights of extended reals, and the vector networks are the networks of `Networks` on
   them. -/
module

public import proofs.«01_k».proof.Proof.Strip
public import proofs.«01_k».proof.Proof.Pops
public import Idealize.ShloMosaic.Lib.Pointwise

@[expose] public section

set_option maxRecDepth 16384

noncomputable section

namespace Cert.Proof

open Cert.KernelIdeal Cert.KernelIdeal.Gen Idealize.ShloMosaic Idealize.ShloMosaic.TcCoe Idealize.ShloMosaic.Tactic

/-- The value that marks an empty place. -/
def neg : EReal := Ideal.ofBits .f32 0xBF800000#32

theorem neg_le_zero : neg ≤ 0 := by
  have h : neg = ((-(1 : ℝ)) : EReal) := by unfold neg; simp [Ideal.ofBits, Ideal.ieee, -EReal.coe_mul]; norm_num
  rw [h]; exact EReal.neg_le_zero.2 zero_le_one

theorem bot_bits : Ideal.ofBits .f32 0xFF800000#32 = (⊥ : EReal) := by simp [Ideal.ofBits, Ideal.ieee]

theorem tileV_apply (a : Vec Ideal S256x512 .f32) (b : Vec Ideal S512x512 .f32) (r : Fin 256) (l : Fin 512) :
    tileV (F := Ideal) a b (ix2 r l) = max (∑ k : Fin 512, a (ix2 r k) * b (ix2 k l)) 0 := by
  pointwise [tileV]

theorem topV_apply (o : Oct (FVec Ideal S256x128 .f32)) (r : Fin 256) :
    topV o (ix2 r 0) = top fun l : Fin 128 => o.head (ix2 r l) := by
  pointwise [topV]
  rw [bot_bits]; rfl

theorem popSelect_apply (o : Oct (FVec Ideal S256x128 .f32)) (x y : FVec Ideal S256x128 .f32) (r : Fin 256) (l : Fin 128) :
    select (cmpf .oeq o.head (broadcastTo S256x128 (topV o) broadcasts_S256x1_S256x128)) x y (ix2 r l)
      = if o.head (ix2 r l) = topV o (ix2 r 0) then x (ix2 r l) else y (ix2 r l) := by
  pointwise

theorem keptV_apply (t : FVec Ideal S256x512 .f32) (cut : FVec Ideal S256x1 .f32) (r : Fin 256) (l : Fin 512) :
    keptV t cut (ix2 r l) = if cut (ix2 r 0) ≤ t (ix2 r l) then t (ix2 r l) else (0 : EReal) := by
  pointwise [keptV]

/-- A four of vectors read at a place. -/
def Quad.at (q : Quad (FVec Ideal S256x128 .f32)) (r : Fin 256) (l : Fin 128) : Quad EReal := q.map fun x => x (ix2 r l)

/-- An eight of vectors read at a place. -/
def Oct.at (o : Oct (FVec Ideal S256x128 .f32)) (r : Fin 256) (l : Fin 128) : Oct EReal := o.map fun x => x (ix2 r l)

theorem max_at (r : Fin 256) (l : Fin 128) (x y : FVec Ideal S256x128 .f32) :
    maximumf x y (ix2 r l) = max (x (ix2 r l) : EReal) (y (ix2 r l)) := by pointwise

theorem min_at (r : Fin 256) (l : Fin 128) (x y : FVec Ideal S256x128 .f32) :
    minimumf x y (ix2 r l) = min (x (ix2 r l) : EReal) (y (ix2 r l)) := by pointwise

theorem empties_at (r : Fin 256) (l : Fin 128) :
    (⟨empties, empties, empties, empties⟩ : Quad (FVec Ideal S256x128 .f32)).at r l = ⟨neg, neg, neg, neg⟩ := rfl

/-- A row of the tiles, as one function of the column. -/
def rowOf (T : ℕ → FVec Ideal S256x512 .f32) (r : Fin 256) (c : ℕ) : EReal :=
  T (c / 512) (ix2 r ⟨c % 512, Nat.mod_lt _ (by decide)⟩)

theorem rowOf_tile (T : ℕ → FVec Ideal S256x512 .f32) (r : Fin 256) (j : ℕ) (l : Fin 512) :
    rowOf T r (512 * j + l.val) = T j (ix2 r l) := by
  unfold rowOf
  rw [show (512 * j + l.val) / 512 = j by omega]
  congr 2; apply Fin.ext; show (512 * j + l.val) % 512 = l.val; omega

theorem batchV_at (T : ℕ → FVec Ideal S256x512 .f32) (g : Fin 2) (n : ℕ) (r : Fin 256) (l : Fin 128) :
    (batchV (T (2 * n)) (T (2 * n + 1)) g).at r l = batch (rowOf T r) l.val g.val n := by
  have e (j : ℕ) (k : ℕ) (h : k + l.val < 512) : T j (ix2 r ⟨k + l.val, h⟩) = rowOf T r (512 * j + (k + l.val)) :=
    (rowOf_tile T r j ⟨k + l.val, h⟩).symm
  have s (x : FVec Ideal S256x512 .f32) (k : ℕ) (hk : k + l.val < 512) (hs : S256x512.Slices ![0, k] S256x128) :
      extractStridedSlice S256x128 ![0, k] x hs (ix2 r l) = x (ix2 r ⟨k + l.val, hk⟩) := by
    pointwise
  unfold batch Quad.at
  fin_cases g
  · simp only [batchV, Quad.map]
    rw [s _ 0 (by omega), s _ 128 (by omega), s _ 0 (by omega), s _ 128 (by omega)]
    simp only [e]
    congr 2 <;> simp <;> omega
  · simp only [batchV, Quad.map]
    rw [s _ 256 (by omega), s _ 384 (by omega), s _ 256 (by omega), s _ 384 (by omega)]
    simp only [e]
    congr 2 <;> simp <;> omega

theorem slotsV_at (T : ℕ → FVec Ideal S256x512 .f32) (g : Fin 2) (n : ℕ) (r : Fin 256) (l : Fin 128) :
    (slotsV T g n).at r l = slots neg (rowOf T r) l.val g.val n := by
  induction n with
  | zero => exact empties_at r l
  | succ n ih =>
    have hb := batchV_at T g n r l
    unfold Quad.at at ih hb
    unfold slotsV slots Quad.at
    rw [Quad.map_merge _ (max_at r l) (min_at r l), Quad.map_sort _ (max_at r l) (min_at r l), ih, hb]

theorem popV_at (o : Oct (FVec Ideal S256x128 .f32)) (r : Fin 256) :
    (fun l => (popV o).at r l) = pop neg fun l => o.at r l := by
  funext l
  have ht : topV o (ix2 r 0) = top fun l => (o.at r l).head := topV_apply o r
  unfold pop
  rw [← ht]
  unfold popV Oct.at Oct.map Quad.map
  simp only [popSelect_apply]
  show _ = if o.head (ix2 r l) = topV o (ix2 r 0) then _ else _
  by_cases h : o.head (ix2 r l) = topV o (ix2 r 0)
  · simp only [if_pos h]; rfl
  · simp only [if_neg h]

theorem stateV_at (T : ℕ → FVec Ideal S256x512 .f32) (n : ℕ) (r : Fin 256) :
    (fun l => (stateV T n).at r l) = (pop neg)^[n] fun l => start neg (rowOf T r) l := by
  induction n with
  | zero =>
    funext l
    have h0 := slotsV_at T 0 10 r l
    have h1 := slotsV_at T 1 10 r l
    unfold Quad.at at h0 h1
    show Oct.map _ (Quad.join _ _ _ _) = Quad.join _ _ _ _
    unfold Oct.map
    rw [Quad.map_join_lo _ (max_at r l) (min_at r l), Quad.map_join_hi _ (max_at r l) (min_at r l), h0, h1]
    rfl
  | succ n ih =>
    rw [Function.iterate_succ_apply', ← ih, ← popV_at, stateV]

/-- The kernel's threshold of row `r`, from the row of its tiles alone. -/
theorem cutV_apply (T : ℕ → FVec Ideal S256x512 .f32) (r : Fin 256) :
    cutV T (ix2 r 0) = cut neg (rowOf T r) := by
  unfold cutV cut
  rw [topV_apply]
  refine congrArg top (funext fun l => ?_)
  have h := congrArg Oct.head (congrFun (stateV_at T 30 r) l)
  revert h
  generalize stateV T 30 = o
  exact id

end Cert.Proof

end
-- ==== Proof.Row.lean ====
/- One row: what the kernel's threshold keeps against what the reference keeps. The row's similarities are `x`; the
   reference's order of the columns is `σ`, of which it keeps the first thirty-one. -/
module

public import proofs.«01_k».proof.Proof.Pops

@[expose] public section

noncomputable section

namespace Cert.Proof

/-- The columns that share a lane and a half tile. -/
def sameBin (c d : ℕ) : Prop := c % 128 = d % 128 ∧ c / 256 % 2 = d / 256 % 2

instance (c d : ℕ) : Decidable (sameBin c d) := by unfold sameBin; infer_instance

/-- Position `i` of the order, for a position given as a number. -/
def nth (σ : Fin 10000 → Fin 10000) (i : ℕ) : Fin 10000 := σ ⟨i % 10000, Nat.mod_lt _ (by decide)⟩

theorem nth_eq (σ : Fin 10000 → Fin 10000) {i : ℕ} (h : i < 10000) : nth σ i = σ ⟨i, h⟩ := by
  unfold nth; congr 1; apply Fin.ext; exact Nat.mod_eq_of_lt h

/-- A row as the kernel sees it: the similarities, the negative ones at zero, then zeros in the padding. -/
structure Seen (x : Fin 10000 → EReal) (v : ℕ → EReal) : Prop where
  real : ∀ c : Fin 10000, v c.val = max (x c) 0
  pad : ∀ c, 10000 ≤ c → c < 10240 → v c = 0

/-- The reference's order: every column once, the greater similarity first. -/
structure Ordered (x : Fin 10000 → EReal) (σ : Fin 10000 → Fin 10000) : Prop where
  inj : Function.Injective σ
  surj : Function.Surjective σ
  anti : ∀ i j, i ≤ j → x (σ j) ≤ x (σ i)

section
variable {neg : EReal} {x : Fin 10000 → EReal} {v : ℕ → EReal} {σ : Fin 10000 → Fin 10000}

/-- A column that reaches a positive threshold is none of the padding's, and its similarity reaches it. -/
theorem Seen.reaches (hv : Seen x v) {θ : EReal} (hθ : 0 < θ) {c : ℕ} (hc : c < 10240) (h : θ ≤ v c) :
    ∃ hl : c < 10000, θ ≤ x ⟨c, hl⟩ := by
  have hl : c < 10000 := by
    by_contra hn
    rw [hv.pad c (by omega) hc] at h
    exact absurd hθ (not_lt.2 h)
  refine ⟨hl, ?_⟩
  have e := hv.real ⟨c, hl⟩
  rw [show v c = max (x ⟨c, hl⟩) 0 from e, le_max_iff] at h
  exact h.resolve_right (not_le.2 hθ)

theorem total_le {θ : EReal} (hθ : neg < θ) : total θ (start neg v) ≤ ((Finset.range 10240).filter fun c => θ ≤ v c).card := by
  rw [total_start v hθ, ← sum_reach]
  exact Finset.sum_le_sum fun l _ => Nat.add_le_add (min_le_right _ _) (min_le_right _ _)

/-- The threshold is at most every positive similarity that the reference keeps. -/
theorem cut_le (hneg : neg ≤ 0) (hv : Seen x v) (hσ : Ordered x σ) (k : Fin 10000) (hk : k.val < 31) (hx : 0 < x (σ k)) :
    cut neg v ≤ x (σ k) := by
  by_contra hlt
  rw [not_le] at hlt
  have hθ : 0 < cut neg v := hx.trans hlt
  have hn : neg < cut neg v := lt_of_le_of_lt hneg hθ
  have h30 := total_of_le_top hn 30 (start neg v) (sorted_start v) (le_of_eq rfl)
  have hle := total_le (v := v) hn
  have hsub : ((Finset.range 10240).filter fun c => cut neg v ≤ v c)
      ⊆ (Finset.univ.filter fun i : Fin 10000 => i < k).image fun i => (σ i).val := by
    intro c hc
    rw [Finset.mem_filter, Finset.mem_range] at hc
    obtain ⟨hl, hxc⟩ := hv.reaches hθ hc.1 hc.2
    obtain ⟨i, hi⟩ := hσ.surj ⟨c, hl⟩
    refine Finset.mem_image.2 ⟨i, Finset.mem_filter.2 ⟨Finset.mem_univ _, ?_⟩, congrArg Fin.val hi⟩
    by_contra hik
    have := hσ.anti k i (not_lt.1 hik)
    rw [hi] at this
    exact absurd (hlt.trans_le hxc) (not_lt.2 this)
  have hcard := (Finset.card_le_card hsub).trans Finset.card_image_le
  have : (Finset.univ.filter fun i : Fin 10000 => i < k).card = k.val := by
    rw [show (Finset.univ.filter fun i : Fin 10000 => i < k) = Finset.Iio k by ext; simp, Fin.card_Iio]
  omega

/-- Where the first thirty-two similarities fall strictly and no bin holds more than four of the first thirty-one, the
    threshold is above every similarity that the reference drops. -/
theorem lt_cut (hneg : neg ≤ 0) (hv : Seen x v) (hσ : Ordered x σ)
    (hfall : ∀ i, i < 31 → x (nth σ (i + 1)) < x (nth σ i))
    (hcrowd : ∀ i, i < 31 → ((Finset.range 31).filter fun j => sameBin (nth σ i).val (nth σ j).val).card ≤ 4)
    (k : Fin 10000) (hk : 31 ≤ k.val) (hx : 0 < x (σ k)) : x (σ k) < cut neg v := by
  have h31 : x (σ k) ≤ x (nth σ 31) := by
    rw [nth_eq σ (by decide)]; exact hσ.anti _ _ (by rw [Fin.le_def]; exact hk)
  have h30 : x (nth σ 31) < x (nth σ 30) := hfall 30 (by decide)
  refine lt_of_lt_of_le (lt_of_le_of_lt h31 h30) ?_
  have pos : 0 < x (nth σ 30) := lt_of_lt_of_le hx (h31.trans h30.le)
  -- what reaches a threshold from the thirty-first on is one of the thirty-one
  have pick : ∀ θ, x (nth σ 30) ≤ θ → ∀ c, c < 10240 → θ ≤ v c → ∃ i, i < 31 ∧ (nth σ i).val = c ∧ θ ≤ x (nth σ i) := by
    intro θ hθ c hc h
    obtain ⟨hl, hxc⟩ := hv.reaches (pos.trans_le hθ) hc h
    obtain ⟨i, hi⟩ := hσ.surj ⟨c, hl⟩
    have hlt : i.val < 31 := by
      by_contra hn
      have : x (σ i) ≤ x (nth σ 31) := by
        rw [nth_eq σ (by decide)]; exact hσ.anti _ _ (by rw [Fin.le_def]; show 31 ≤ i.val; omega)
      rw [hi] at this
      exact absurd ((hθ.trans hxc).trans this) (not_le.2 h30)
    refine ⟨i.val, hlt, ?_, ?_⟩
    · rw [nth_eq σ i.isLt]; exact congrArg Fin.val hi
    · rw [nth_eq σ i.isLt, show σ ⟨i.val, i.isLt⟩ = σ i from rfl, hi]; exact hxc
  have few : ∀ θ, x (nth σ 30) ≤ θ → ∀ l g, (reach v θ l g).card ≤ 4 := by
    intro θ hθ l g
    by_contra hn
    have hne : (reach v θ l g).Nonempty := Finset.card_pos.1 (by omega)
    obtain ⟨c, hc⟩ := hne
    have mem : ∀ {c}, c ∈ reach v θ l g → c < 10240 ∧ (c % 128 = l ∧ c / 256 % 2 = g) ∧ θ ≤ v c := by
      intro c h; unfold reach at h; rw [Finset.mem_filter, Finset.mem_range] at h; exact h
    obtain ⟨i, hi, hic, -⟩ := pick θ hθ c (mem hc).1 (mem hc).2.2
    have hsub : reach v θ l g ⊆ ((Finset.range 31).filter fun j => sameBin (nth σ i).val (nth σ j).val).image fun j => (nth σ j).val := by
      intro d hd
      obtain ⟨j, hj, hjd, -⟩ := pick θ hθ d (mem hd).1 (mem hd).2.2
      refine Finset.mem_image.2 ⟨j, Finset.mem_filter.2 ⟨Finset.mem_range.2 hj, ?_⟩, hjd⟩
      have h1 := (mem hc).2.1
      have h2 := (mem hd).2.1
      rw [hic, hjd]
      exact ⟨h1.1.trans h2.1.symm, h1.2.trans h2.2.symm⟩
    have := (Finset.card_le_card hsub).trans (Finset.card_image_le.trans (hcrowd i hi))
    omega
  refine le_top_of_total 30 (fun i => x (nth σ i)) (start neg v) (sorted_start v) (fun i hi => hfall i (by omega))
    (lt_of_le_of_lt hneg pos) fun θ hθ => ?_
  have hn : neg < θ := lt_of_le_of_lt hneg (pos.trans_le hθ)
  rw [total_start v hn, ranked, ← Finset.card_filter]
  have e : ∀ l : Fin 128, min 4 (reach v θ l.val 0).card + min 4 (reach v θ l.val 1).card
      = (reach v θ l.val 0).card + (reach v θ l.val 1).card := fun l => by
    rw [min_eq_right (few θ hθ _ _), min_eq_right (few θ hθ _ _)]
  rw [Finset.sum_congr rfl fun l _ => e l, sum_reach]
  symm
  refine Finset.card_bij (fun i _ => (nth σ i).val) ?_ ?_ ?_
  · intro i hi
    rw [Finset.mem_filter, Finset.mem_range] at hi
    rw [Finset.mem_filter, Finset.mem_range]
    refine ⟨by have := (nth σ i).isLt; omega, ?_⟩
    rw [hv.real]; exact hi.2.trans (le_max_left _ _)
  · intro i hi j hj h
    rw [Finset.mem_filter, Finset.mem_range] at hi hj
    have := hσ.inj (Fin.ext h : nth σ i = nth σ j)
    have := congrArg Fin.val this
    simp only at this
    rw [Nat.mod_eq_of_lt (by omega), Nat.mod_eq_of_lt (by omega)] at this
    exact this
  · intro c hc
    rw [Finset.mem_filter, Finset.mem_range] at hc
    obtain ⟨i, hi, hic, hx⟩ := pick θ hθ c hc.1 hc.2
    exact ⟨i, Finset.mem_filter.2 ⟨Finset.mem_range.2 hi, hx⟩, hic⟩

/-- The kernel's entry of column `c`. -/
def keptOf (neg : EReal) (v : ℕ → EReal) (c : ℕ) : EReal := if cut neg v ≤ v c then v c else 0

open Classical in
/-- The reference's entry of column `c`. -/
def wantOf (x : Fin 10000 → EReal) (σ : Fin 10000 → Fin 10000) (c : Fin 10000) : EReal :=
  if ∃ k : Fin 10000, k.val < 31 ∧ σ k = c then max (x c) 0 else 0

/-- Where the similarity is not positive both entries are zero. -/
theorem kept_of_le (hv : Seen x v) (c : Fin 10000) (hx : x c ≤ 0) : keptOf neg v c.val = wantOf x σ c := by
  unfold keptOf wantOf
  rw [hv.real, max_eq_right hx]; simp

/-- Where the reference keeps a positive similarity the kernel keeps it. -/
theorem kept_of_pos (hneg : neg ≤ 0) (hv : Seen x v) (hσ : Ordered x σ) (c : Fin 10000) (h : 0 < wantOf x σ c) :
    keptOf neg v c.val = wantOf x σ c := by
  by_cases hp : ∃ k : Fin 10000, k.val < 31 ∧ σ k = c
  · unfold wantOf at h ⊢
    rw [if_pos hp] at h ⊢
    obtain ⟨k, hk, rfl⟩ := hp
    have hx : 0 < x (σ k) := by rcases lt_max_iff.1 h with h | h; exacts [h, absurd h (lt_irrefl _)]
    unfold keptOf
    rw [hv.real, if_pos ((cut_le hneg hv hσ k hk hx).trans (le_max_left _ _))]
  · unfold wantOf at h
    rw [if_neg hp] at h
    exact absurd h (lt_irrefl _)

/-- On a row of distinct, spread similarities the two agree everywhere. -/
theorem kept_of_row (hneg : neg ≤ 0) (hv : Seen x v) (hσ : Ordered x σ)
    (hfall : ∀ i, i < 31 → x (nth σ (i + 1)) < x (nth σ i))
    (hcrowd : ∀ i, i < 31 → ((Finset.range 31).filter fun j => sameBin (nth σ i).val (nth σ j).val).card ≤ 4)
    (c : Fin 10000) : keptOf neg v c.val = wantOf x σ c := by
  by_cases hx : x c ≤ 0
  · exact kept_of_le hv c hx
  rw [not_le] at hx
  by_cases hp : ∃ k : Fin 10000, k.val < 31 ∧ σ k = c
  · refine kept_of_pos hneg hv hσ c ?_
    unfold wantOf
    rw [if_pos hp]; exact hx.trans_le (le_max_left _ _)
  · obtain ⟨k, rfl⟩ := hσ.surj c
    have hk : 31 ≤ k.val := by
      by_contra hn; exact hp ⟨k, by omega, rfl⟩
    unfold keptOf wantOf
    rw [if_neg hp, hv.real, max_eq_left hx.le, if_neg (not_le.2 (lt_cut hneg hv hσ hfall hcrowd k hk hx))]

end

end Cert.Proof

end
-- ==== Proof.Entries.lean ====
/- The strip kernel's output block at an entry: the tile's entry, or zero below the row's threshold. -/
module

public import proofs.«01_k».proof.Proof.Block
public import proofs.«01_k».proof.Proof.Lanes
public import proofs.«01_k».proof.Proof.Row

@[expose] public section

noncomputable section

namespace Cert.Proof

open Cert.KernelIdeal Cert.KernelIdeal.Gen Idealize.ShloMosaic Idealize.ShloMosaic.TcCoe Idealize.ShloMosaic.Tactic

section
variable {F : FTy → Type} [FloatOps F]

section
variable (arg1 : Memref sig .tc .vmem S256x512 .f32) (harg1 : arg1.IsWhole) (arg2 : Memref sig .tc .vmem S512x10240 .f32)
  (harg2 : arg2.IsWhole) (x0 : Vec F S256x512 .f32) (x1 : Vec F S512x10240 .f32)

/-- The loaded rows are the block. -/
theorem rowsL_eq : rowsL arg1 harg1 x0 = x0 := by
  unfold rowsL
  rw [View.readAt_eq_ld]
  rw [harg1.read_unread]
  funext x
  exact View.ld_unit_apply_of (Val := Elt F) (S := S256x512) (e := .f32) x0 ![0, 0] S256x512.size inb_S256x512_S256x512_0_0 x x
    fun a => by fin_cases a <;> simp

/-- The loaded tile of columns is its part of the whole. -/
theorem colsL_apply (j : ℕ) (hj : j < 20) (k l : Fin 512) :
    colsL arg2 harg2 x1 j (ix2 k l) = x1 (ix2 k ⟨512 * j + l.val, by omega⟩) := by
  unfold colsL
  rw [View.readAt_eq_ld]
  rw [harg2.read_unread]
  refine View.ld_unit_apply_of (Val := Elt F) (S := S512x10240) (e := .f32) x1 ![0, 512 * (j % 20)] S512x512.size (inbCols j) _ _ fun a => ?_
  have := Nat.mod_eq_of_lt hj
  fin_cases a
  · simp
  · show 512 * j + l.val = 512 * (j % 20) + l.val
    rw [this]
end

/-- A strip of the twenty tiles reads tile by tile as the tiles. -/
theorem backL_strip (arg4 : Memref sig .tc .vmem S256x10240 .f32) (T : ℕ → FVec F S256x512 .f32) (j : ℕ) (hj : j < 20) :
    backL arg4 (List.ofFn fun k : Fin 20 => stripPiece T (19 - k.val)) j = T j := by
  unfold backL
  rw [View.readCov_eq_canon']
  funext x
  have hx : (x 1 : ℕ) < 512 := (x 1).isLt
  refine View.canon_ofFn_unit_eq_of_forall (Val := Elt F) (S := S256x10240) (e := .f32) (fun k : Fin 20 => ![0, 512 * ((19 - k.val) % 20)]) S256x512.size
    (fun k => inbStrip _) (fun k => shapeCast S256x512 (T (19 - k.val)) shapeCasts_S256x512_S256x512) _ _
    ⟨⟨19 - j, by omega⟩, fun a => ?_⟩ fun k z hz => ?_
  · have e : 19 - (19 - j) = j := by omega
    fin_cases a
    · have : (x 0 : ℕ) < 256 := (x 0).isLt
      show 0 ≤ 0 + 1 * (x 0 : ℕ) ∧ 0 + 1 * (x 0 : ℕ) < 0 + 256
      omega
    · show 512 * ((19 - (19 - j)) % 20) ≤ 512 * (j % 20) + 1 * (x 1 : ℕ) ∧ 512 * (j % 20) + 1 * (x 1 : ℕ) < 512 * ((19 - (19 - j)) % 20) + 512
      rw [e]; omega
  · have h0 : 0 + 1 * (x 0 : ℕ) = 0 + (z 0 : ℕ) := hz 0
    have h1 : 512 * (j % 20) + 1 * (x 1 : ℕ) = 512 * ((19 - k.val) % 20) + (z 1 : ℕ) := hz 1
    have hz1 : (z 1 : ℕ) < 512 := (z 1).isLt
    have hk : 19 - k.val = j := by omega
    have hzx : z = x := by
      funext a
      apply Fin.ext
      fin_cases a
      · show (z 0 : ℕ) = (x 0 : ℕ); omega
      · show (z 1 : ℕ) = (x 1 : ℕ); omega
    rw [hk, shapeCast_self, hzx]

variable (c : Dev nD) (i : grid1.Coords) (arg1 : Memref sig .tc .vmem S256x512 .f32) (harg1 : arg1.IsWhole)
  (arg2 : Memref sig .tc .vmem S512x10240 .f32) (harg2 : arg2.IsWhole)
  (arg3 : Memref sig .tc .vmem S256x10000 .f32) (harg3 : arg3.IsWhole)
  (arg4 : Memref sig .tc .vmem S256x10240 .f32) (harg4 : arg4.IsWhole)
  (x0 : Vec F S256x512 .f32) (x1 : Vec F S512x10240 .f32)

/-- The block that the body leaves, at row `r` and column `q`. -/
theorem out_apply (r : Fin 256) (q : Fin 10000) :
    out1_A_2 c i arg1 harg1 arg2 harg2 arg3 harg3 arg4 harg4 x0 x1 (ix2 r q)
      = keptV (tileL arg1 harg1 arg2 harg2 x0 x1 (q.val / 512)) (cutV (tileL arg1 harg1 arg2 harg2 x0 x1))
          (ix2 r ⟨q.val % 512, Nat.mod_lt _ (by decide)⟩) := by
  unfold out1_A_2
  rw [View.read_writes_junk_eq_canon, pieces_eq, cut_eq, strip_eq]
  generalize tileL arg1 harg1 arg2 harg2 x0 x1 = T
  by_cases hq : 9728 ≤ q.val
  · have hd : q.val / 512 = 19 := by omega
    have e : (ix2 r q : S256x10000.Idx) = (Rect.unit (s := S256x10000) ![0, 9728] S256x272.size inb_S256x10000_S256x272_0_9728).emb
        (ix2 (n0 := 256) (n1 := 272) r ⟨q.val - 9728, by omega⟩) := by
      funext a; apply Fin.ext
      fin_cases a
      · show r.val = 0 + 1 * r.val; omega
      · show q.val = 9728 + 1 * (q.val - 9728); omega
    rw [e, View.canon_cons_emb, backL_strip arg4 T 19 (by decide), hd]
    generalize keptV (T 19) (cutV T) = K
    unfold extractStridedSlice
    refine congrArg K ?_
    funext a; apply Fin.ext
    fin_cases a
    · show 0 + r.val = r.val; omega
    · show 0 + (q.val - 9728) = q.val % 512; omega
  · rw [View.canon_cons_of_not_mem]
    swap
    · rw [Rect.mem_set_unit]
      intro h
      exact hq (h 1).1
    refine View.canon_ofFn_unit_eq_of_forall (Val := Elt F) (S := S256x10000) (e := .f32) (fun k : Fin 19 => ![0, 512 * ((18 - k.val) % 19)]) S256x512.size
      (fun k => inbOut _) (fun k => keptV (backL arg4 (List.ofFn fun k : Fin 20 => stripPiece T (19 - k.val)) (18 - k.val)) (cutV T)) _ _
      ⟨⟨18 - q.val / 512, by omega⟩, fun a => ?_⟩ fun k z hz => ?_
    · fin_cases a
      · show 0 ≤ r.val ∧ r.val < 0 + 256
        omega
      · show 512 * ((18 - (18 - q.val / 512)) % 19) ≤ q.val ∧ q.val < 512 * ((18 - (18 - q.val / 512)) % 19) + 512
        omega
    · have h0 : r.val = 0 + (z 0 : ℕ) := hz 0
      have h1 : q.val = 512 * ((18 - k.val) % 19) + (z 1 : ℕ) := hz 1
      have hz1 : (z 1 : ℕ) < 512 := (z 1).isLt
      have hk : 18 - k.val = q.val / 512 := by omega
      have hzx : z = ix2 r ⟨q.val % 512, Nat.mod_lt _ (by decide)⟩ := by
        funext a
        apply Fin.ext
        fin_cases a
        · show (z 0 : ℕ) = r.val; omega
        · show (z 1 : ℕ) = q.val % 512; omega
      rw [hk, backL_strip arg4 T _ (by omega), hzx]

end

/-- The block's row `r` as the kernel sees it: the products of the row with every column, the negative ones at zero. -/
def seen (arg1 : Memref sig .tc .vmem S256x512 .f32) (harg1 : arg1.IsWhole) (arg2 : Memref sig .tc .vmem S512x10240 .f32)
    (harg2 : arg2.IsWhole) (x0 : Vec Ideal S256x512 .f32) (x1 : Vec Ideal S512x10240 .f32) (r : Fin 256) : ℕ → EReal :=
  rowOf (tileL arg1 harg1 arg2 harg2 x0 x1) r

theorem seen_apply (arg1 : Memref sig .tc .vmem S256x512 .f32) (harg1 : arg1.IsWhole) (arg2 : Memref sig .tc .vmem S512x10240 .f32)
    (harg2 : arg2.IsWhole) (x0 : Vec Ideal S256x512 .f32) (x1 : Vec Ideal S512x10240 .f32) (r : Fin 256) (q : ℕ) (hq : q < 10240) :
    seen arg1 harg1 arg2 harg2 x0 x1 r q = max (∑ k : Fin 512, x0 (ix2 r k) * x1 (ix2 k ⟨q, hq⟩)) 0 := by
  unfold seen rowOf tileL
  rw [tileV_apply, rowsL_eq]
  refine congrArg (max · 0) (Finset.sum_congr rfl fun k _ => congrArg (x0 (ix2 r k) * ·) ?_)
  rw [colsL_apply _ _ _ _ (by omega)]
  refine congrArg x1 (congrArg (ix2 k) (Fin.ext ?_))
  show 512 * (q / 512) + q % 512 = q
  omega

/-- The block that the body leaves, at row `r` and column `q`, from the row as the kernel sees it. -/
theorem out_kept (c : Dev nD) (i : grid1.Coords) (arg1 : Memref sig .tc .vmem S256x512 .f32) (harg1 : arg1.IsWhole)
    (arg2 : Memref sig .tc .vmem S512x10240 .f32) (harg2 : arg2.IsWhole) (arg3 : Memref sig .tc .vmem S256x10000 .f32)
    (harg3 : arg3.IsWhole) (arg4 : Memref sig .tc .vmem S256x10240 .f32) (harg4 : arg4.IsWhole)
    (x0 : Vec Ideal S256x512 .f32) (x1 : Vec Ideal S512x10240 .f32) (r : Fin 256) (q : Fin 10000) :
    out1_A_2 c i arg1 harg1 arg2 harg2 arg3 harg3 arg4 harg4 x0 x1 (ix2 r q) = keptOf neg (seen arg1 harg1 arg2 harg2 x0 x1 r) q.val := by
  rw [out_apply, keptV_apply, cutV_apply]
  rfl

end Cert.Proof

end
-- ==== Proof.StripArr.lean ====
/- The second region's result: each row's similarities at and above the row's threshold, zeros below it. -/
module

public import proofs.«01_k».proof.Proof.EmbArr
public import proofs.«01_k».proof.Proof.Entries

@[expose] public section

set_option maxRecDepth 16384

noncomputable section

namespace Cert.Proof

open Cert.KernelIdeal Cert.KernelIdeal.Gen Idealize.ShloMosaic Idealize.ShloMosaic.TcCoe Idealize.ShloMosaic.Tactic

variable (m : (ℓ : Loc nD τ sig) → Buf (Elt Ideal) ℓ) (ρ : Dev nD → PrngReg)

/-- A row of the result as a row of the padded features. -/
def up (r : Fin 10000) : Fin 10240 := ⟨r.val, by omega⟩

theorem W4_emb (c : Dev nD) (r : Fin 10240) (k : Fin 512) :
    (W4 m ρ c (Proc.devRef .tc main_v3) : S10240x512.Idx → EReal) (ix2 r k) = embRow m c r k :=
  (congrFun ((W4_arr m ρ c 3).trans (emb_arr m ρ c)) (ix2 r k) :)

theorem V5_rows (c : Dev nD) (r : Fin 10240) (k : Fin 512) :
    (V5 m ρ c main_v3 : S10240x512.Idx → EReal) (ix2 r k) = embRow m c r k := by
  rw [← W4_emb m ρ]
  exact congrFun (W5_of m ρ c main_v3 (by decide)) (ix2 r k)

theorem V5_cols (c : Dev nD) (k : Fin 512) (q : Fin 10240) :
    (V5 m ρ c main_v4 : S512x10240.Idx → EReal) (ix2 k q) = embRow m c q k := by
  rw [← W4_emb m ρ]
  after_reads_at

theorem idx1 : ∀ t : Fin cfg1.N, win1_0.index t = ![t.val, 0] ∧ win1_1.index t = ![0, 0] ∧ win1_2.index t = ![t.val, 0] := by
  decide +kernel

theorem row1_lt (t : Fin cfg1.N) (r : Fin 256) : 256 * t.val + r.val < 10240 := by
  have : t.val < 40 := t.isLt
  omega

/-- One block of the second region's result. -/
theorem strip_block (c : Dev nD) (t : Fin cfg1.N) (r : Fin 256) (q : Fin 10000) :
    ∃ v : ℕ → EReal, (∀ p (hp : p < 10240),
        v p = max (∑ k, embRow m c ⟨256 * t.val + r.val, row1_lt t r⟩ k * embRow m c ⟨p, hp⟩ k) 0)
      ∧ outsAt1 (V5 m ρ) c t (ix2 r q) = keptOf neg v q.val := by
  obtain ⟨e0, e1, -⟩ := idx1 t
  unfold outsAt1
  rw [out_kept]
  refine ⟨_, fun p hp => ?_, rfl⟩
  rw [seen_apply _ _ _ _ _ _ _ _ hp]
  refine congrArg (max · 0) (Finset.sum_congr rfl fun k _ => congrArg₂ (· * ·) ?_ ?_)
  · rw [← V5_rows m ρ]
    blk_ext [iblk1, e0]
  · rw [← V5_cols m ρ]
    blk_ext [iblk1, e1]

/-- The second region's result, at an entry. -/
theorem strip_arr (c : Dev nD) (r q : Fin 10000) :
    ∃ v : ℕ → EReal, (∀ p (hp : p < 10240), v p = max (∑ k, embRow m c (up r) k * embRow m c ⟨p, hp⟩ k) 0)
      ∧ (W6 m ρ c (Proc.devRef .tc main_v5) : S10000x10000.Idx → EReal) (ix2 r q) = keptOf neg v q.val := by
  rw [show W6 m ρ c (Proc.devRef .tc main_v5) = _ from W6_arr m ρ c 2]
  refine (dat1 (V5 m ρ) c).arrAt_forall_of_covers 2 (fun (i : S10000x10000.Idx) (x : EReal) =>
    ∃ v : ℕ → EReal, (∀ p (hp : p < 10240), v p = max (∑ k, embRow m c (up (i 0)) k * embRow m c ⟨p, hp⟩ k) 0)
      ∧ x = keptOf neg v (i 1).val) (by decide +kernel) (fun t hf y => ?_) (ix2 r q)
  blk_simp
  rw [after1_2]
  obtain ⟨-, -, e2⟩ := idx1 t
  let z : S256x10000.Idx := (cfg1.win 2).xinj (cfg1.grid.coords t) y
  obtain ⟨v, hv, h⟩ := strip_block m ρ c t (z 0) (z 1)
  refine ⟨v, fun p hp => (hv p hp).trans ?_, ?_⟩
  · refine congrArg (max · 0) (Finset.sum_congr rfl fun k _ => congrArg (· * _) (congrArg (embRow m c · k) ?_))
    refine Fin.ext ?_
    unfold up
    blk_simp [e2]
    show _ = _
    simp [z]
    omega
  · refine (congrArg (outsAt1 (V5 m ρ) c t) (eq_ix2 (n0 := 256) (n1 := 10000) z)).trans (h.trans (congrArg (keptOf neg v) ?_))
    have h0 : win1_2.index t 1 = 0 := congrFun e2 1
    exact ((congrArg (fun n => n * 10000 + (y 1).val) h0).trans (by show 0 * 10000 + (y 1).val = (y 1).val; omega)).symm

end Cert.Proof

end
-- ==== Proof.TopK.lean ====
/- The reference's order of a row: the positions a stable sort by "greater first" puts them in. A top-k reads its first
   entries, whatever their number. -/
module

public import proofs.«01_k».proof.Proof.Row
public import Idealize.ShloMosaic.Lib.Pointwise
public import Idealize.ShloMosaic.Lib.SortFacts
public import Idealize.ShloMosaic.PureOps.Ideal

@[expose] public section

noncomputable section

namespace Cert.Proof

open Idealize.ShloMosaic

/-- Whether column `k` goes before column `l`: its similarity is greater. -/
def before (x : Fin 10000 → EReal) (k l : Fin 10000) : Bool :=
  FloatOps.cmpfTotal (F := Ideal) (φ := .f32) .gt (x k) (x l) == 1#1

theorem before_iff (x : Fin 10000 → EReal) (k l : Fin 10000) : before x k l = true ↔ x l < x k := by
  unfold before
  rw [beq_iff_eq]
  show BitVec.ofBool (decide (x l < x k)) = 1#1 ↔ _
  by_cases h : x l < x k <;> simp [h]

theorem before_false (x : Fin 10000 → EReal) (k l : Fin 10000) : before x k l = false ↔ x k ≤ x l := by
  rw [← Bool.not_eq_true, before_iff, not_lt]

/-- The columns of a row, the greatest similarity first. -/
def order (x : Fin 10000 → EReal) : Fin 10000 → Fin 10000 := sortedFrom (before x)

theorem ordered (x : Fin 10000 → EReal) : Ordered x (order x) where
  inj := sortedFrom_injective _
  surj := sortedFrom_surjective _
  anti i j hij := by
    rcases hij.eq_or_lt with rfl | h
    · exact le_rfl
    · refine (before_false x _ _).1 (sortedFrom_noInversion (before x) (before x) (fun a b h => ?_) (fun a b h => h)
        (fun a b c h h' => ?_) i j h)
      · exact (before_false x _ _).2 ((before_iff x _ _).1 h).le
      · exact (before_false x _ _).2 (((before_false x _ _).1 h).trans ((before_false x _ _).1 h'))

/-- The rows and columns of the similarities. -/
abbrev Sq : Shape := ⟨2, ![10000, 10000]⟩

theorem along_ix2 (r q k : Fin 10000) : Shape.Idx.along (s := Sq) (ix2 r q) 1 k = ix2 r k := by
  funext a
  fin_cases a
  · exact Function.update_of_ne (by decide) _ _
  · exact Function.update_self _ _ _

section
variable (X : Sq.Idx → EReal)

/-- The two results of the sort that a top-k cuts, at an entry. -/
theorem sort_entry (Y : Sq.Idx → BitVec 32) (r q : Fin 10000) :
    (Host.sort2 Sq 1 (fun a b => FloatOps.cmpfTotal (F := Ideal) (φ := .f32) .gt a.1 b.1) X Y).1 (ix2 r q)
        = X (ix2 r (order (fun q => X (ix2 r q)) q))
      ∧ (Host.sort2 Sq 1 (fun a b => FloatOps.cmpfTotal (F := Ideal) (φ := .f32) .gt a.1 b.1) X Y).2 (ix2 r q)
        = Y (ix2 r (order (fun q => X (ix2 r q)) q)) := by
  have h1 : 1 < Sq.rank := by decide
  have e : (fun k k' : Fin 10000 => FloatOps.cmpfTotal (F := Ideal) (φ := .f32) .gt
      (X (Shape.Idx.along (s := Sq) (ix2 r q) 1 k)) (X (Shape.Idx.along (s := Sq) (ix2 r q) 1 k')) == 1#1)
      = before fun q => X (ix2 r q) := by
    funext k k'
    rw [along_ix2, along_ix2]
    rfl
  unfold Host.sort2 order
  rw [dif_pos h1]
  refine ⟨congrArg X ?_, congrArg Y ?_⟩
  all_goals
    refine (along_ix2 r q _).trans (congrArg (ix2 r) ?_)
    rw [← e]
    rfl

variable {n : ℕ} (hn : n ≤ 10000)

theorem cut_entry {α : Type} (Y : Sq.Idx → α) (h : Sq.Slices (fun _ => 0) ⟨2, ![10000, n]⟩) (r : Fin 10000) (k : Fin n) :
    extractStridedSlice ⟨2, ![10000, n]⟩ (fun _ => 0) Y h (ix2 r k) = Y (ix2 r ⟨k.val, k.isLt.trans_le hn⟩) := by
  refine congrArg Y (funext fun a => ?_)
  fin_cases a <;> exact Fin.ext (Nat.zero_add _)

/-- The column numbers that a top-k carries along. -/
def colNum : IVec Sq 32 := fun i => if hd : 1 < Sq.rank then iotaInDim Sq 32 ⟨1, hd⟩ i else 0#32

/-- An entry of a top-k's values. -/
theorem topK_value (h : Sq.Slices (fun _ => 0) ⟨2, ![10000, n]⟩) (r : Fin 10000) (k : Fin n) :
    (Host.topK ⟨2, ![10000, n]⟩ 1 (FloatOps.cmpfTotal (F := Ideal) (φ := .f32) .gt) X h).1 (ix2 r k)
      = X (ix2 r (order (fun q => X (ix2 r q)) ⟨k.val, k.isLt.trans_le hn⟩)) :=
  (cut_entry hn _ h r k).trans (sort_entry X colNum r _).1

/-- An entry of a top-k's indices. -/
theorem topK_index (h : Sq.Slices (fun _ => 0) ⟨2, ![10000, n]⟩) (r : Fin 10000) (k : Fin n) :
    (Host.topK ⟨2, ![10000, n]⟩ 1 (FloatOps.cmpfTotal (F := Ideal) (φ := .f32) .gt) X h).2 (ix2 r k)
      = BitVec.ofNat 32 (order (fun q => X (ix2 r q)) ⟨k.val, k.isLt.trans_le hn⟩).val :=
  (cut_entry hn _ h r k).trans (sort_entry X colNum r _).2

end

end Cert.Proof

end
-- ==== Proof.Reference.lean ====
/- What the reference computes: the similarities of the embedded rows, of which each row keeps the first thirty-one of
   its order, the negative ones at zero. -/
module

public import proofs.«01_k».proof.Proof.Emb
public import proofs.«01_k».proof.Proof.TopK
public import proofs.«01_k».proof.Proof.Gen.ReferenceIdeal.Run
public import Idealize.ShloMosaic.Lib.Routing.OpsSet

@[expose] public section

set_option maxRecDepth 16384

noncomputable section

namespace Cert.Proof

open Cert.ReferenceIdeal Cert.ReferenceIdeal.Gen Idealize.ShloMosaic Idealize.ShloMosaic.TcCoe Idealize.ShloMosaic.Tactic

section
variable (a0 : FVec Ideal S10000x512 .f32) (a1 a2 : FVec Ideal S512 .f32)

/-- The gated rows. -/
def gateV : FVec Ideal S10000x512 .f32 :=
  mulf (maximumf (mulf a0 (broadcastInDim S10000x512 ![0, 1] bcast_S1x512_S10000x512_0_1
      (broadcastInDim S1x512 ![1] bcast_S512_S1x512_1 a1)))
    (broadcastInDim S10000x512 ![] bcast_S_S10000x512 (constant S_ .f32 0x00000000#32)))
    (broadcastInDim S10000x512 ![0, 1] bcast_S1x512_S10000x512_0_1 (broadcastInDim S1x512 ![1] bcast_S512_S1x512_1 a2))

/-- The gated rows over their norms. -/
def embV : FVec Ideal S10000x512 .f32 :=
  Host.divf (gateV a0 a1 a2) (broadcastInDim S10000x512 ![0, 1] bcast_S10000x1_S10000x512_0_1
    (maximumf (Host.sqrt (broadcastInDim S10000x1 ![0] bcast_S10000_S10000x1_0
      (Host.reduceAdd (mulf (gateV a0 a1 a2) (gateV a0 a1 a2)) (constant S_ .f32 0x00000000#32) reducesTo_S10000x512_S10000_d1 h_S_)))
      (broadcastInDim S10000x1 ![] bcast_S_S10000x1 (constant S_ .f32 0x2B8CBCCC#32))))

/-- Every row against every row. -/
def simV : FVec Ideal S10000x10000 .f32 :=
  Host.dotGeneral dot_S10000x512_S512x10000_S10000x10000_1_0_0_1_n_n none (embV a0 a1 a2)
    (transpose S512x10000 [1, 0] (embV a0 a1 a2) transposes_S10000x512_S512x10000_1_0)

/-- Row `r`, embedded. -/
def refRow (r : Fin 10000) : Fin 512 → EReal :=
  emb (fun k => a0 (ix2 r k)) (fun k => a1 (ix1 k)) (fun k => a2 (ix1 k))

theorem embV_apply (r : Fin 10000) (k : Fin 512) : embV a0 a1 a2 (ix2 r k) = refRow a0 a1 a2 r k := by
  unfold refRow emb gated
  pointwise [embV, gateV]

theorem simV_apply (r q : Fin 10000) :
    simV a0 a1 a2 (ix2 r q) = ∑ k, refRow a0 a1 a2 r k * refRow a0 a1 a2 q k := by
  simp only [← embV_apply]
  unfold simV
  generalize embV a0 a1 a2 = E
  pointwise []

end

section
variable (S : FVec Ideal S10000x10000 .f32)

/-- The columns that a top-k names, row by row. -/
def colsV : IVec S10000x31 32 :=
  (Host.topK S10000x31 1 (FloatOps.cmpfTotal .gt) S sliceFits_S10000x10000_S10000x31).2

/-- The rows' own numbers. -/
def rowsV : IVec S10000x1 32 := broadcastInDim S10000x1 ![0] bcast_S10000_S10000x1_0 (iotaInDim S10000 32 0)

/-- The entries that the reference keeps, a row and a column each. -/
def pairsV : IVec S10000x31x2 32 :=
  Value.fn_main_v30 (F := Ideal)
    (broadcastInDim S10000x31x1 ![0, 1] bcast_S10000x31_S10000x31x1_0_1 (broadcastInDim S10000x31 ![0, 1] bcast_S10000x1_S10000x31_0_1
      (select (cmpi .slt rowsV (broadcastInDim S10000x1 ![] bcast_S_S10000x1 (constantI S_ 32 0#32)))
        (addi rowsV (broadcastInDim S10000x1 ![] bcast_S_S10000x1 (constantI S_ 32 10000#32))) rowsV)))
    (broadcastInDim S10000x31x1 ![0, 1] bcast_S10000x31_S10000x31x1_0_1
      (select (cmpi .slt (colsV S) (broadcastInDim S10000x31 ![] bcast_S_S10000x31 (constantI S_ 32 0#32)))
        (addi (colsV S) (broadcastInDim S10000x31 ![] bcast_S_S10000x31 (constantI S_ 32 10000#32))) (colsV S)))

/-- One at the entries kept, zero elsewhere. -/
def keepV : FVec Ideal S10000x10000 .f32 :=
  Host.scatter scatter_S10000x10000_S10000x31x2_S10000x31_n_01_01_2 (fun _ b => b)
    (broadcastInDim S10000x10000 ![] bcast_S_S10000x10000 (constant S_ .f32 0x00000000#32)) (pairsV S)
    (broadcastInDim S10000x31 ![] bcast_S_S10000x31 (constant S_ .f32 0x3F800000#32))

/-- The result, from the similarities. -/
def wantV : FVec Ideal S10000x10000 .f32 :=
  maximumf (mulf S (keepV S)) (broadcastInDim S10000x10000 ![] bcast_S_S10000x10000 (constant S_ .f32 0x00000000#32))

theorem wrap_small (n : ℕ) (h : n < 10000) (y : BitVec 32) :
    Scalar.select (IntOp.cmpi .slt (BitVec.ofNat 32 n) 0#32) y (BitVec.ofNat 32 n) = BitVec.ofNat 32 n := by
  refine Routing.wrap_of_lt _ _ ?_
  rw [BitVec.toNat_ofNat]
  omega

theorem colsV_apply (r : Fin 10000) (k : Fin 31) :
    colsV S (ix2 r k) = BitVec.ofNat 32 (order (fun q => S (ix2 r q)) ⟨k.val, by omega⟩).val :=
  topK_index S (by omega) sliceFits_S10000x10000_S10000x31 r k

theorem pairsV_row (r : Fin 10000) (k : Fin 31) : pairsV S (ix3 r k 0) = BitVec.ofNat 32 r.val := by
  rw [← wrap_small r.val r.isLt (BitVec.ofNat 32 r.val + 10000#32)]
  unfold pairsV rowsV
  generalize colsV S = C
  pointwise [Value.fn_main_v30]
  rfl

theorem pairsV_col (r : Fin 10000) (k : Fin 31) :
    pairsV S (ix3 r k 1) = BitVec.ofNat 32 (order (fun q => S (ix2 r q)) ⟨k.val, by omega⟩).val := by
  rw [← wrap_small _ (Fin.isLt _) (BitVec.ofNat 32 (order (fun q => S (ix2 r q)) ⟨k.val, by omega⟩).val + 10000#32),
    ← colsV_apply]
  unfold pairsV
  generalize colsV S = C
  pointwise [Value.fn_main_v30]
  rfl

/-- Where an update lands: at its own row, in the column that the row's order puts at its position. -/
theorem lands (r q p : Fin 10000) (k : Fin 31) :
    scatter_S10000x10000_S10000x31x2_S10000x31_n_01_01_2.resultIdx? (ix2 p k) (pairsV S) = some (ix2 r q)
      ↔ p = r ∧ order (fun q => S (ix2 p q)) ⟨k.val, by omega⟩ = q := by
  have small : ∀ n : Fin 10000, (BitVec.ofNat 32 n.val).toInt = n.val := fun n => by
    rw [BitVec.toInt_eq_toNat_cond, BitVec.toNat_ofNat]
    have := n.isLt
    split <;> omega
  have h := Routing.scatter_lands2 scatter_S10000x10000_S10000x31x2_S10000x31_n_01_01_2 rfl rfl rfl (pairsV S) p k r q
  have e0 : pairsV S (ValueIdx.ix3 p k 0) = _ := pairsV_row S p k
  have e1 : pairsV S (ValueIdx.ix3 p k 1) = _ := pairsV_col S p k
  rw [e0, e1, small, small] at h
  refine Iff.trans h ?_
  rw [Fin.ext_iff, Fin.ext_iff]
  omega

open Classical in
theorem keepV_apply (r q : Fin 10000) :
    keepV S (ix2 r q) = if ∃ k : Fin 10000, k.val < 31 ∧ order (fun q => S (ix2 r q)) k = q then 1 else 0 := by
  unfold keepV
  split
  · next h =>
    obtain ⟨k, hk, e⟩ := h
    refine Routing.scatter_set_hit _ _ _ _ _ _ (fun j _ => ?_) (ix2 r ⟨k.val, hk⟩) ((lands S r q r ⟨k.val, hk⟩).2 ⟨rfl, e⟩)
    exact Ideal.ofBits_one_f32
  · next h =>
    refine (Routing.scatter_set_miss _ _ _ _ _ fun j hj => h ?_).trans Ideal.ofBits_zero_f32
    rw [eq_ix2 (n0 := 10000) (n1 := 31) j] at hj
    obtain ⟨hr, e⟩ := (lands S r q _ _).1 hj
    rw [hr] at e
    exact ⟨_, (j 1).isLt, e⟩

/-- The result at an entry: the similarity if its column is among the row's first thirty-one, zero otherwise. -/
theorem wantV_apply (r q : Fin 10000) :
    wantV S (ix2 r q) = wantOf (fun q => S (ix2 r q)) (order fun q => S (ix2 r q)) q := by
  have e : wantV S (ix2 r q) = max (S (ix2 r q) * keepV S (ix2 r q)) 0 := by
    unfold wantV
    generalize keepV S = M
    pointwise []
  rw [e, keepV_apply]
  unfold wantOf
  split
  · rw [mul_one]
  · rw [mul_zero, max_self]

end

variable (m : (ℓ : Loc nD τ sig) → Buf (Elt Ideal) ℓ)

theorem res_eq (c : Dev nD) : Value.res_main_v34 m c = wantV (simV (m ((c.tc : Thread nD τ).loc main_arg0))
    (m ((c.tc : Thread nD τ).loc main_arg1)) (m ((c.tc : Thread nD τ).loc main_arg2))) := by
  unfold Value.res_main_v34
  rfl

end Cert.Proof

end
-- ==== Proof.Mask.lean ====
/- The mask, read at an entry: the row's order is strict and its bins uncrowded, or the similarity is not positive, or
   the reference's result is. -/
module

public import proofs.«01_k».proof.Proof.Reference
public import proofs.«01_k».proof.Proof.Gen.On_settled
public import Idealize.ShloMosaic.Lib.ReduceAll

@[expose] public section

set_option maxRecDepth 16384

noncomputable section

namespace Cert.Proof

open Cert.On_settled Cert.On_settled.Facts Idealize.ShloMosaic Idealize.ShloMosaic.Tactic

section
variable (S : FVec Ideal S10000x10000 .f32)

/-- The thirty-two greatest similarities of each row. -/
def topsV : FVec Ideal S10000x32 .f32 :=
  (Host.topK S10000x32 1 (FloatOps.cmpfTotal .gt) S sliceFits_S10000x10000_S10000x32).1

/-- Their columns. -/
def topColsV : IVec S10000x32 32 :=
  (Host.topK S10000x32 1 (FloatOps.cmpfTotal .gt) S sliceFits_S10000x10000_S10000x32).2

/-- Whether each of the first thirty-one is greater than the next. -/
def fallsV : IVec S10000x31 1 :=
  cmpf .ogt (extractStridedSlice S10000x31 ![0, 0] (topsV S) slices_S10000x32_S10000x31_0_0)
    (extractStridedSlice S10000x31 ![0, 1] (topsV S) slices_S10000x32_S10000x31_0_1)

/-- The bins of the first thirty-one columns. -/
def binsV : IVec S10000x31 32 :=
  andi (extractStridedSlice S10000x31 ![0, 0] (topColsV S) slices_S10000x32_S10000x31_0_0)
    (broadcastInDim S10000x31 ![] bcast_S_S10000x31 (constantI S_ 32 383#32))

/-- Which pairs of the first thirty-one share a bin. -/
def sameV (B : IVec S10000x31 32) : IVec S10000x31x31 32 :=
  extui 32 (cmpi .eq
    (broadcastInDim S10000x31x31 ![0, 1, 2] bcast_S10000x31x1_S10000x31x31_0_1_2
      (broadcastInDim S10000x31x1 ![0, 1] bcast_S10000x31_S10000x31x1_0_1 B))
    (broadcastInDim S10000x31x31 ![0, 1, 2] bcast_S10000x1x31_S10000x31x31_0_1_2
      (broadcastInDim S10000x1x31 ![0, 2] bcast_S10000x31_S10000x1x31_0_2 B))) natLt_1_32

/-- How many of the first thirty-one are in the bin of each. -/
def crowdV (B : IVec S10000x31 32) : IVec S10000x31 32 :=
  Host.reduce IntOp.addi (sameV B) (constantI S_ 32 0#32) reducesTo_S10000x31x31_S10000x31_d2 h_S_

/-- Whether that is four at most. -/
def sparseV : IVec S10000x31 1 :=
  cmpi .sle (crowdV (binsV S)) (broadcastInDim S10000x31 ![] bcast_S_S10000x31 (constantI S_ 32 4#32))

/-- Whether a row meets both. -/
def rowV : IVec S10000 1 :=
  andi (Host.reduce IntOp.andi (fallsV S) (constantI S_ 1 1#1) reducesTo_S10000x31_S10000_d1 h_S_)
    (Host.reduce IntOp.andi (sparseV S) (constantI S_ 1 1#1) reducesTo_S10000x31_S10000_d1 h_S_)

/-- The mask, from the similarities. -/
def maskV : IVec S10000x10000 1 :=
  ori (ori (broadcastInDim S10000x10000 ![0, 1] bcast_S10000x1_S10000x10000_0_1
        (broadcastInDim S10000x1 ![0] bcast_S10000_S10000x1_0 (rowV S)))
      (cmpf .ole S (broadcastInDim S10000x10000 ![] bcast_S_S10000x10000 (constant S_ .f32 0x00000000#32))))
    (cmpf .ogt (wantV S) (broadcastInDim S10000x10000 ![] bcast_S_S10000x10000 (constant S_ .f32 0x00000000#32)))

theorem fn_eq (a0 : FVec Ideal S10000x512 .f32) (a1 a2 : FVec Ideal S512 .f32) :
    fn (F := Ideal) a0 a1 a2 = maskV (simV a0 a1 a2) := by
  unfold fn fn_part1 fn_part2 fn_part3 fn_relu fn_norm fn_relu_0
  rfl

theorem ori_one : ∀ a b : BitVec 1, IntOp.ori a b = 1#1 → a = 1#1 ∨ b = 1#1 := by decide

theorem andi_one : ∀ a b : BitVec 1, IntOp.andi a b = 1#1 → a = 1#1 ∧ b = 1#1 := by decide

theorem ole_one (a b : EReal) (h : FloatOps.cmpf (F := Ideal) (φ := .f32) .ole a b = 1#1) : a ≤ b := by
  by_contra hn
  have : FloatOps.cmpf (F := Ideal) (φ := .f32) .ole a b = BitVec.ofBool (decide (a ≤ b)) := rfl
  rw [this, decide_eq_false hn] at h
  exact absurd h (by decide)

theorem ogt_one (a b : EReal) (h : FloatOps.cmpf (F := Ideal) (φ := .f32) .ogt a b = 1#1) : b < a := by
  by_contra hn
  have : FloatOps.cmpf (F := Ideal) (φ := .f32) .ogt a b = BitVec.ofBool (decide (b < a)) := rfl
  rw [this, decide_eq_false hn] at h
  exact absurd h (by decide)

/-- The mask at an entry. -/
theorem maskV_cases (r q : Fin 10000) (h : maskV S (ix2 r q) = 1#1) :
    rowV S (ix1 r) = 1#1 ∨ S (ix2 r q) ≤ 0 ∨ 0 < wantV S (ix2 r q) := by
  have e : maskV S (ix2 r q) = IntOp.ori (IntOp.ori (rowV S (ix1 r)) (FloatOps.cmpf (F := Ideal) (φ := .f32) .ole (S (ix2 r q)) 0))
      (FloatOps.cmpf (F := Ideal) (φ := .f32) .ogt (wantV S (ix2 r q)) 0) := by
    unfold maskV
    generalize rowV S = R
    generalize wantV S = W
    pointwise []
  rw [e] at h
  rcases ori_one _ _ h with h | h
  · rcases ori_one _ _ h with h | h
    · exact Or.inl h
    · exact Or.inr (Or.inl (ole_one _ _ h))
  · exact Or.inr (Or.inr (ogt_one _ _ h))

/-- A row that meets the condition meets it at each of its first thirty-one. -/
theorem rowV_all (r : Fin 10000) (h : rowV S (ix1 r) = 1#1) (k : Fin 31) :
    fallsV S (ix2 r k) = 1#1 ∧ sparseV S (ix2 r k) = 1#1 := by
  have e : reducesTo_S10000x31_S10000_d1.drop (ix2 r k) = ix1 r := by
    funext a
    fin_cases a
    rfl
  obtain ⟨h1, h2⟩ := andi_one _ _ h
  exact ⟨Host.reduce_andi_eq_one _ _ _ _ _ h1 _ e, Host.reduce_andi_eq_one _ _ _ _ _ h2 _ e⟩

theorem fallsV_apply (r : Fin 10000) (k : Fin 31) (h : fallsV S (ix2 r k) = 1#1) :
    S (ix2 r (order (fun q => S (ix2 r q)) ⟨k.val + 1, by omega⟩)) < S (ix2 r (order (fun q => S (ix2 r q)) ⟨k.val, by omega⟩)) := by
  have e : fallsV S (ix2 r k) = FloatOps.cmpf (F := Ideal) (φ := .f32) .ogt (topsV S (ix2 r ⟨k.val, by omega⟩))
      (topsV S (ix2 r ⟨k.val + 1, by omega⟩)) := by
    unfold fallsV
    generalize topsV S = V
    pointwise []
    simp only [Nat.add_comm 1]
  rw [e] at h
  have h' := ogt_one _ _ h
  unfold topsV at h'
  rw [topK_value S (by omega), topK_value S (by omega)] at h'
  exact h'

theorem binsV_apply (r : Fin 10000) (k : Fin 31) :
    binsV S (ix2 r k) = BitVec.ofNat 32 (order (fun q => S (ix2 r q)) ⟨k.val, by omega⟩).val &&& 383#32 := by
  have e : binsV S (ix2 r k) = topColsV S (ix2 r ⟨k.val, by omega⟩) &&& 383#32 := by
    unfold binsV
    generalize topColsV S = V
    pointwise []
    rfl
  rw [e]
  unfold topColsV
  rw [topK_index S (by omega)]

/-- A sum of bits, as words, counts the bits that are set. -/
theorem fold_bits {ι : Type} (s : Finset ι) (b : ι → BitVec 32) (p : ι → Prop) [DecidablePred p]
    (h : ∀ i, b i = if p i then 1#32 else 0#32) :
    s.fold IntOp.addi 0#32 b = BitVec.ofNat 32 (s.filter p).card := by
  classical
  induction s using Finset.induction_on with
  | empty => rfl
  | insert a s ha ih =>
    rw [Finset.fold_insert ha, ih, h a, Finset.filter_insert]
    split
    · rw [Finset.card_insert_of_notMem fun hm => ha (Finset.mem_filter.1 hm).1, Nat.add_comm, BitVec.ofNat_add]
      rfl
    · exact BitVec.zero_add _

theorem sameV_apply (B : IVec S10000x31 32) (r : Fin 10000) (i j : Fin 31) :
    sameV B (ix3 r i j) = if B (ix2 r i) = B (ix2 r j) then 1#32 else 0#32 := by
  have e : sameV B (ix3 r i j) = (IntOp.cmpi .eq (B (ix2 r i)) (B (ix2 r j))).zeroExtend 32 := by
    unfold sameV
    pointwise []
  rw [e]
  by_cases h : B (ix2 r i) = B (ix2 r j)
  · rw [if_pos h, h]; simp [IntOp.cmpi]
  · rw [if_neg h]
    show BitVec.setWidth 32 (BitVec.ofBool (B (ix2 r i) == B (ix2 r j))) = 0#32
    rw [beq_eq_false_iff_ne.2 h]
    rfl

/-- How many of a row's first thirty-one are in the bin of one of them. -/
theorem crowdV_apply (B : IVec S10000x31 32) (r : Fin 10000) (i : Fin 31) :
    crowdV B (ix2 r i) = BitVec.ofNat 32 (Finset.univ.filter fun j : Fin 31 => B (ix2 r i) = B (ix2 r j)).card := by
  have hd : ∀ a b c, reducesTo_S10000x31x31_S10000x31_d2.drop (ix3 a b c) = ix2 a b := fun a b c => by
    funext x
    fin_cases x <;> rfl
  unfold crowdV
  rw [Host.reduce_eq_fold]
  rw [show (constantI S_ 32 0#32 : IVec S_ 32) (Shape.Idx.first h_S_) = 0#32 from rfl,
    fold_bits _ (sameV B) (fun x => B (ix2 (x 0) (x 1)) = B (ix2 (x 0) (x 2)))
      (fun x => by
        have := sameV_apply B (x 0) (x 1) (x 2)
        rwa [← eq_ix3 (n0 := 10000) (n1 := 31) (n2 := 31) x] at this)]
  refine congrArg (BitVec.ofNat 32) ?_
  rw [Finset.filter_filter, ← Finset.card_image_of_injective (f := fun j : Fin 31 => (ix3 r i j : S10000x31x31.Idx)) _
    (fun j j' h => congrFun h 2)]
  refine congrArg Finset.card (Finset.ext fun x => ?_)
  rw [Finset.mem_filter, Finset.mem_image]
  constructor
  · rintro ⟨-, hx, hb⟩
    have hx : (x 0 : Fin 10000) = r ∧ (x 1 : Fin 31) = i := (ix2_inj _ _ _ _).1 ((hd (x 0) (x 1) (x 2)).symm.trans
      ((congrArg reducesTo_S10000x31x31_S10000x31_d2.drop (eq_ix3 (n0 := 10000) (n1 := 31) (n2 := 31) x).symm).trans hx))
    refine ⟨x 2, Finset.mem_filter.2 ⟨Finset.mem_univ _, ?_⟩, ?_⟩
    · rw [← hx.1, ← hx.2]; exact hb
    · rw [← hx.1, ← hx.2]; exact (eq_ix3 (n0 := 10000) (n1 := 31) (n2 := 31) x).symm
  · rintro ⟨j, hj, rfl⟩
    exact ⟨Finset.mem_univ _, hd _ _ _, (Finset.mem_filter.1 hj).2⟩

theorem sparseV_apply (r : Fin 10000) (i : Fin 31) (h : sparseV S (ix2 r i) = 1#1) :
    (Finset.univ.filter fun j : Fin 31 => binsV S (ix2 r i) = binsV S (ix2 r j)).card ≤ 4 := by
  have e : sparseV S (ix2 r i) = IntOp.cmpi .sle (crowdV (binsV S) (ix2 r i)) 4#32 := rfl
  rw [e, crowdV_apply] at h
  have hc : (Finset.univ.filter fun j : Fin 31 => binsV S (ix2 r i) = binsV S (ix2 r j)).card ≤ 31 :=
    (Finset.card_filter_le _ _).trans (by simp)
  revert hc h
  generalize (Finset.univ.filter fun j : Fin 31 => binsV S (ix2 r i) = binsV S (ix2 r j)).card = n
  intro h hc
  have small : ∀ n : Fin 32, IntOp.cmpi .sle (BitVec.ofNat 32 n.val) 4#32 = 1#1 → n.val ≤ 4 := by decide
  exact small ⟨n, by omega⟩ h

/-- The bits of a column's number that the mask compares. -/
theorem bin_bits : ∀ c : Fin 10000,
    BitVec.ofNat 32 c.val &&& 383#32 = BitVec.ofNat 32 (c.val % 128 + c.val / 256 % 2 * 256) := by decide +kernel

theorem bin_of_same (c d : Fin 10000) (h : sameBin c.val d.val) :
    BitVec.ofNat 32 c.val &&& 383#32 = BitVec.ofNat 32 d.val &&& 383#32 := by
  rw [bin_bits, bin_bits, h.1, h.2]

/-- A row that meets the condition: its order is strict down to the thirty-second, and no bin holds more than four of the
    first thirty-one. -/
theorem rowV_spec (r : Fin 10000) (h : rowV S (ix1 r) = 1#1) :
    (∀ i, i < 31 → S (ix2 r (nth (order fun q => S (ix2 r q)) (i + 1))) < S (ix2 r (nth (order fun q => S (ix2 r q)) i)))
      ∧ ∀ i, i < 31 → ((Finset.range 31).filter fun j =>
        sameBin (nth (order fun q => S (ix2 r q)) i).val (nth (order fun q => S (ix2 r q)) j).val).card ≤ 4 := by
  refine ⟨fun i hi => ?_, fun i hi => ?_⟩
  · rw [nth_eq _ (by omega), nth_eq _ (by omega)]
    exact fallsV_apply S r ⟨i, hi⟩ (rowV_all S r h ⟨i, hi⟩).1
  · refine le_trans ?_ (sparseV_apply S r ⟨i, hi⟩ (rowV_all S r h ⟨i, hi⟩).2)
    refine le_trans (Finset.card_le_card (t := (Finset.univ.filter fun j : Fin 31 =>
      binsV S (ix2 r ⟨i, hi⟩) = binsV S (ix2 r j)).image Fin.val) fun j hj => ?_) Finset.card_image_le
    obtain ⟨hj, hs⟩ := Finset.mem_filter.1 hj
    have hj := Finset.mem_range.1 hj
    refine Finset.mem_image.2 ⟨⟨j, hj⟩, Finset.mem_filter.2 ⟨Finset.mem_univ _, ?_⟩, rfl⟩
    rw [nth_eq _ (by omega), nth_eq _ (by omega)] at hs
    rw [binsV_apply, binsV_apply]
    exact bin_of_same _ _ hs

end

end Cert.Proof

end
-- ==== Proof.Equation.lean ====
/- The kernel's result and the reference's, at an entry that the mask selects: equal. -/
module

public import proofs.«01_k».proof.Proof.StripArr
public import proofs.«01_k».proof.Proof.Mask

@[expose] public section

set_option maxRecDepth 16384

noncomputable section

namespace Cert.Proof

open Cert.KernelIdeal Cert.KernelIdeal.Gen Idealize.ShloMosaic Idealize.ShloMosaic.TcCoe Idealize.ShloMosaic.Tactic

/-- The least norm is positive. -/
theorem eps_pos : 0 < Ideal.ofBits .f32 0x2B8CBCCC#32 := by
  simp [Ideal.ofBits, Ideal.ieee, -EReal.coe_mul]

/-- A row of zeros embeds at zero. -/
theorem emb_zero (u w : Fin 512 → EReal) (k : Fin 512) : emb (fun _ => 0) u w k = 0 := by
  have g : gated (fun _ => 0) u w = fun _ => 0 := by
    funext j
    unfold gated
    rw [zero_mul, max_self, zero_mul]
  unfold emb
  rw [g]
  unfold Ideal.div
  rw [if_neg (ne_of_gt (eps_pos.trans_le (le_max_right _ _))), zero_mul]

variable (m : (ℓ : Loc nD τ sig) → Buf (Elt Ideal) ℓ) (ρ : Dev nD → PrngReg)

/-- The similarities of the kernel's arguments, as the reference computes them. -/
def sims (c : Dev nD) : Sq.Idx → EReal :=
  simV (m ((c : Thread nD τ).loc main_arg0)) (m ((c : Thread nD τ).loc main_arg1)) (m ((c : Thread nD τ).loc main_arg2))

theorem embRow_real (c : Dev nD) (r : Fin 10240) (h : r.val < 10000) :
    embRow m c r = refRow (m ((c : Thread nD τ).loc main_arg0)) (m ((c : Thread nD τ).loc main_arg1))
      (m ((c : Thread nD τ).loc main_arg2)) ⟨r.val, h⟩ := by
  unfold embRow refRow padded
  simp only [dif_pos h]

theorem embRow_pad (c : Dev nD) (r : Fin 10240) (h : 10000 ≤ r.val) (k : Fin 512) : embRow m c r k = 0 := by
  unfold embRow
  refine Eq.trans (congrArg (emb · _ _ k) (funext fun j => ?_)) (emb_zero _ _ k)
  unfold padded
  exact dif_neg (by omega)

/-- The row that the kernel works on is the reference's. -/
theorem seen_row (c : Dev nD) (r : Fin 10000) (v : ℕ → EReal)
    (hv : ∀ p (hp : p < 10240), v p = max (∑ k, embRow m c (up r) k * embRow m c ⟨p, hp⟩ k) 0) :
    Seen (fun q => sims m c (ix2 r q)) v where
  real q := by
    rw [hv q.val (by omega), embRow_real m c (up r) r.isLt, embRow_real m c ⟨q.val, _⟩ q.isLt]
    unfold sims
    rw [simV_apply]
    rfl
  pad p h hp := by
    rw [hv p hp]
    simp only [embRow_pad m c ⟨p, hp⟩ h, mul_zero, Finset.sum_const_zero, max_self]

/-- The two results agree wherever the mask is set. -/
theorem agree (c : Dev nD) (r q : Fin 10000) (h : maskV (sims m c) (ix2 r q) = 1#1) :
    (W6 m ρ c (Proc.devRef .tc main_v5) : S10000x10000.Idx → EReal) (ix2 r q) = wantV (sims m c) (ix2 r q) := by
  obtain ⟨v, hv, e⟩ := strip_arr m ρ c r q
  have hs := seen_row m c r v hv
  have ho := ordered fun q => sims m c (ix2 r q)
  rw [e]
  have hw := wantV_apply (sims m c) r q
  rcases maskV_cases _ _ _ h with hr | hx | hp
  · obtain ⟨hf, hc⟩ := rowV_spec _ _ hr
    exact (kept_of_row neg_le_zero hs ho hf hc q).trans hw.symm
  · exact (kept_of_le hs q hx).trans hw.symm
  · rw [hw] at hp ⊢
    exact kept_of_pos neg_le_zero hs ho q hp

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_settled
public import proofs.«01_k».proof.Proof.KernelRun
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem Idealize.ShloMosaic.TcCoe Idealize.ShloMosaic.Tactic

/-- The kernel, as written: it ends with its arguments unchanged and every counter at zero. -/
theorem frame_kernel : quiescent_Kernel := fun m ρ _ => Cert.Kernel.Gen.frame m ρ

/-- The same of the kernel over the extended reals. -/
theorem frame_ideal : quiescent_KernelIdeal := fun m ρ _ => Cert.KernelIdeal.Gen.frame m ρ

/-- The same of the reference. -/
theorem frame_reference : quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- The two results are equal wherever the mask is set: both are the reference's. -/
theorem results : algebraic_KernelIdeal_ReferenceIdeal_on_settled := by
  intro m ρ m' ρ' _ hargs
  refine ⟨fun c => wantV (sims m c), ?_, ?_⟩
  · refine (θ_run (Cert.KernelIdeal.defs (F := Ideal)) _ _).mono (fun r h c => ⟨fun i hi => ?_, (h c).2⟩) (kernel_run m ρ)
    rw [(h c).1]
    rw [fn_eq] at hi
    obtain ⟨a, b, rfl⟩ : ∃ a b : Fin 10000, i = ix2 a b := ⟨i 0, i 1, eq_ix2 (n0 := 10000) (n1 := 10000) i⟩
    exact agree m ρ c a b hi
  · refine (θ_run (Cert.ReferenceIdeal.defs (F := Ideal)) _ _).mono (fun r h c => ⟨fun i _ => ?_, (h c).2⟩)
      (Cert.ReferenceIdeal.Value.run (F := Ideal) m' ρ')
    obtain ⟨e0, e1, e2⟩ := hargs c
    rw [(h c).1, res_eq m' c, e0, e1, e2]
    rfl

theorem claim : Cert.Claim :=
  ⟨Cert.Kernel.Gen.facts, Cert.KernelIdeal.Gen.facts, Cert.ReferenceIdeal.Gen.facts, Cert.On_settled.Gen.facts,
    frame_kernel, frame_ideal, frame_reference, trivial, results⟩

end Cert.Proof

end
